-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "inv_d" .f32 0x3A2AAAAB#32 ((1 / 1536 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x512x1024 : Shape := ⟨3, ![4, 512, 1024]⟩
abbrev S4x8x2 : Shape := ⟨3, ![4, 8, 2]⟩
abbrev S8x1024 : Shape := ⟨2, ![8, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x8192 : Shape := ⟨2, ![1024, 8192]⟩
abbrev S512x1024 : Shape := ⟨2, ![512, 1024]⟩
abbrev S512 : Shape := ⟨1, ![512]⟩
abbrev S1536 : Shape := ⟨1, ![1536]⟩
abbrev S9x1536 : Shape := ⟨2, ![9, 1536]⟩
abbrev S9 : Shape := ⟨1, ![9]⟩
abbrev S_ : Shape := ⟨0, ![]⟩

class Facts : Prop where
  bcast_S_S4x512x1024 : S_.BroadcastsInDim S4x512x1024 (![] : Fin 0 → Fin S4x512x1024.rank)
  reducesTo_S4x512x1024_S_d0_1_2 : S4x512x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x8192 : S_.BroadcastsInDim S1024x8192 (![] : Fin 0 → Fin S1024x8192.rank)
  reducesTo_S1024x8192_S_d0_1 : S1024x8192.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1536 : S_.BroadcastsInDim S1536 (![] : Fin 0 → Fin S1536.rank)
  reducesTo_S1536_S_d0 : S1536.ReducesTo [0] S_
  bcast_S_S9x1536 : S_.BroadcastsInDim S9x1536 (![] : Fin 0 → Fin S9x1536.rank)
  reducesTo_S9x1536_S_d0_1 : S9x1536.ReducesTo [0, 1] S_

variable [Facts]

def fn_part3 {F : FTy → Type} [FloatOps F] (main_arg13 : FVec F S9x1536 .f32) (main_v49 : IVec S_ 1) (main_v50 : FVec F S1536 .f32) : IVec S_ 1 :=
  let main_cst_19 : FVec F S_ .f32 := constant S_ .f32 0x7F800000#32
  let main_v51 : FVec F S1536 .f32 := broadcastInDim S1536 ![] bcast_S_S1536 main_cst_19
  let main_v52 : IVec S1536 1 := cmpf .olt main_v50 main_v51
  let main_c_20 : IVec S_ 1 := constantI S_ 1 1#1
  let main_v53 : IVec S_ 1 := (fun x v => Host.reduce IntOp.andi x v reducesTo_S1536_S_d0 h_S_) main_v52 main_c_20
  let main_v54 : IVec S_ 1 := andi main_v53 main_v49
  let main_v55 : FVec F S9x1536 .f32 := Host.absf main_arg13
  let main_cst_21 : FVec F S_ .f32 := constant S_ .f32 0x7F800000#32
  let main_v56 : FVec F S9x1536 .f32 := broadcastInDim S9x1536 ![] bcast_S_S9x1536 main_cst_21
  let main_v57 : IVec S9x1536 1 := cmpf .olt main_v55 main_v56
  let main_c_22 : IVec S_ 1 := constantI S_ 1 1#1
  let main_v58 : IVec S_ 1 := (fun x v => Host.reduce IntOp.andi x v reducesTo_S9x1536_S_d0_1 h_S_) main_v57 main_c_22
  let main_v59 : IVec S_ 1 := andi main_v58 main_v54
  main_v59

def fn_part2 {F : FTy → Type} [FloatOps F] (main_arg8 : FVec F S1024 .f32) (main_arg9 : FVec F S512x1024 .f32) (main_arg10 : FVec F S512 .f32) (main_arg11 : FVec F S1536 .f32) (main_arg13 : FVec F S9x1536 .f32) (main_v29 : IVec S_ 1) (main_v32 : IVec S1024x8192 1) (main_c_12 : IVec S_ 1) : IVec S_ 1 :=
  let main_v33 : IVec S_ 1 := (fun x v => Host.reduce IntOp.andi x v reducesTo_S1024x8192_S_d0_1 h_S_) main_v32 main_c_12
  let main_v34 : IVec S_ 1 := andi main_v33 main_v29
  let main_v35 : FVec F S1024 .f32 := Host.absf main_arg8
  let main_cst_13 : FVec F S_ .f32 := constant S_ .f32 0x7F800000#32
  let main_v36 : FVec F S1024 .f32 := broadcastInDim S1024 ![] bcast_S_S1024 main_cst_13
  let main_v37 : IVec S1024 1 := cmpf .olt main_v35 main_v36
  let main_c_14 : IVec S_ 1 := constantI S_ 1 1#1
  let main_v38 : IVec S_ 1 := (fun x v => Host.reduce IntOp.andi x v reducesTo_S1024_S_d0 h_S_) main_v37 main_c_14
  let main_v39 : IVec S_ 1 := andi main_v38 main_v34
  let main_v40 : FVec F S512x1024 .f32 := Host.absf main_arg9
  let main_cst_15 : FVec F S_ .f32 := constant S_ .f32 0x7F800000#32
  let main_v41 : FVec F S512x1024 .f32 := broadcastInDim S512x1024 ![] bcast_S_S512x1024 main_cst_15
  let main_v42 : IVec S512x1024 1 := cmpf .olt main_v40 main_v41
  let main_c_16 : IVec S_ 1 := constantI S_ 1 1#1
  let main_v43 : IVec S_ 1 := (fun x v => Host.reduce IntOp.andi x v reducesTo_S512x1024_S_d0_1 h_S_) main_v42 main_c_16
  let main_v44 : IVec S_ 1 := andi main_v43 main_v39
  let main_v45 : FVec F S512 .f32 := Host.absf main_arg10
  let main_cst_17 : FVec F S_ .f32 := constant S_ .f32 0x7F800000#32
  let main_v46 : FVec F S512 .f32 := broadcastInDim S512 ![] bcast_S_S512 main_cst_17
  let main_v47 : IVec S512 1 := cmpf .olt main_v45 main_v46
  let main_c_18 : IVec S_ 1 := constantI S_ 1 1#1
  let main_v48 : IVec S_ 1 := (fun x v => Host.reduce IntOp.andi x v reducesTo_S512_S_d0 h_S_) main_v47 main_c_18
  let main_v49 : IVec S_ 1 := andi main_v48 main_v44
  let main_v50 : FVec F S1536 .f32 := Host.absf main_arg11
  fn_part3 (F := F) main_arg13 main_v49 main_v50

def fn_part1 {F : FTy → Type} [FloatOps F] (main_arg5 : FVec F S1024x1024 .f32) (main_arg6 : FVec F S1024 .f32) (main_arg7 : FVec F S1024x8192 .f32) (main_arg8 : FVec F S1024 .f32) (main_arg9 : FVec F S512x1024 .f32) (main_arg10 : FVec F S512 .f32) (main_arg11 : FVec F S1536 .f32) (main_arg13 : FVec F S9x1536 .f32) (main_v14 : IVec S_ 1) (main_v15 : FVec F S3072 .f32) (main_cst_5 : FVec F S_ .f32) : IVec S_ 1 :=
  let main_v16 : FVec F S3072 .f32 := broadcastInDim S3072 ![] bcast_S_S3072 main_cst_5
  let main_v17 : IVec S3072 1 := cmpf .olt main_v15 main_v16
  let main_c_6 : IVec S_ 1 := constantI S_ 1 1#1
  let main_v18 : IVec S_ 1 := (fun x v => Host.reduce IntOp.andi x v reducesTo_S3072_S_d0 h_S_) main_v17 main_c_6
  let main_v19 : IVec S_ 1 := andi main_v18 main_v14
  let main_v20 : FVec F S1024x1024 .f32 := Host.absf main_arg5
  let main_cst_7 : FVec F S_ .f32 := constant S_ .f32 0x7F800000#32
  let main_v21 : FVec F S1024x1024 .f32 := broadcastInDim S1024x1024 ![] bcast_S_S1024x1024 main_cst_7
  let main_v22 : IVec S1024x1024 1 := cmpf .olt main_v20 main_v21
  let main_c_8 : IVec S_ 1 := constantI S_ 1 1#1
  let main_v23 : IVec S_ 1 := (fun x v => Host.reduce IntOp.andi x v reducesTo_S1024x1024_S_d0_1 h_S_) main_v22 main_c_8
  let main_v24 : IVec S_ 1 := andi main_v23 main_v19
  let main_v25 : FVec F S1024 .f32 := Host.absf main_arg6
  let main_cst_9 : FVec F S_ .f32 := constant S_ .f32 0x7F800000#32
  let main_v26 : FVec F S1024 .f32 := broadcastInDim S1024 ![] bcast_S_S1024 main_cst_9
  let main_v27 : IVec S1024 1 := cmpf .olt main_v25 main_v26
  let main_c_10 : IVec S_ 1 := constantI S_ 1 1#1
  let main_v28 : IVec S_ 1 := (fun x v => Host.reduce IntOp.andi x v reducesTo_S1024_S_d0 h_S_) main_v27 main_c_10
  let main_v29 : IVec S_ 1 := andi main_v28 main_v24
  let main_v30 : FVec F S1024x8192 .f32 := Host.absf main_arg7
  let main_cst_11 : FVec F S_ .f32 := constant S_ .f32 0x7F800000#32
  let main_v31 : FVec F S1024x8192 .f32 := broadcastInDim S1024x8192 ![] bcast_S_S1024x8192 main_cst_11
  let main_v32 : IVec S1024x8192 1 := cmpf .olt main_v30 main_v31
  let main_c_12 : IVec S_ 1 := constantI S_ 1 1#1
  fn_part2 (F := F) main_arg8 main_arg9 main_arg10 main_arg11 main_arg13 main_v29 main_v32 main_c_12

def fn {F : FTy → Type} [FloatOps F] (main_arg0 : FVec F S4x512x1024 .f32) (main_arg1 : IVec S4x8x2 32) (main_arg2 : FVec F S8x1024 .f32) (main_arg3 : FVec F S3072x1024 .f32) (main_arg4 : FVec F S3072 .f32) (main_arg5 : FVec F S1024x1024 .f32) (main_arg6 : FVec F S1024 .f32) (main_arg7 : FVec F S1024x8192 .f32) (main_arg8 : FVec F S1024 .f32) (main_arg9 : FVec F S512x1024 .f32) (main_arg10 : FVec F S512 .f32) (main_arg11 : FVec F S1536 .f32) (main_arg12 : FVec F S1536 .f32) (main_arg13 : FVec F S9x1536 .f32) (main_arg14 : FVec F S9 .f32) : IVec S_ 1 :=
  let main_v0 : FVec F S4x512x1024 .f32 := Host.absf main_arg0
  let main_cst : FVec F S_ .f32 := constant S_ .f32 0x7F800000#32
  let main_v1 : FVec F S4x512x1024 .f32 := broadcastInDim S4x512x1024 ![] bcast_S_S4x512x1024 main_cst
  let main_v2 : IVec S4x512x1024 1 := cmpf .olt main_v0 main_v1
  let main_c : IVec S_ 1 := constantI S_ 1 1#1
  let main_v3 : IVec S_ 1 := (fun x v => Host.reduce IntOp.andi x v reducesTo_S4x512x1024_S_d0_1_2 h_S_) main_v2 main_c
  let main_c_0 : IVec S_ 1 := constantI S_ 1 1#1
  let main_v4 : IVec S_ 1 := andi main_v3 main_c_0
  let main_v5 : FVec F S8x1024 .f32 := Host.absf main_arg2
  let main_cst_1 : FVec F S_ .f32 := constant S_ .f32 0x7F800000#32
  let main_v6 : FVec F S8x1024 .f32 := broadcastInDim S8x1024 ![] bcast_S_S8x1024 main_cst_1
  let main_v7 : IVec S8x1024 1 := cmpf .olt main_v5 main_v6
  let main_c_2 : IVec S_ 1 := constantI S_ 1 1#1
  let main_v8 : IVec S_ 1 := (fun x v => Host.reduce IntOp.andi x v reducesTo_S8x1024_S_d0_1 h_S_) main_v7 main_c_2
  let main_v9 : IVec S_ 1 := andi main_v8 main_v4
  let main_v10 : FVec F S3072x1024 .f32 := Host.absf main_arg3
  let main_cst_3 : FVec F S_ .f32 := constant S_ .f32 0x7F800000#32
  let main_v11 : FVec F S3072x1024 .f32 := broadcastInDim S3072x1024 ![] bcast_S_S3072x1024 main_cst_3
  let main_v12 : IVec S3072x1024 1 := cmpf .olt main_v10 main_v11
  let main_c_4 : IVec S_ 1 := constantI S_ 1 1#1
  let main_v13 : IVec S_ 1 := (fun x v => Host.reduce IntOp.andi x v reducesTo_S3072x1024_S_d0_1 h_S_) main_v12 main_c_4
  let main_v14 : IVec S_ 1 := andi main_v13 main_v9
  let main_v15 : FVec F S3072 .f32 := Host.absf main_arg4
  let main_cst_5 : FVec F S_ .f32 := constant S_ .f32 0x7F800000#32
  fn_part1 (F := F) main_arg5 main_arg6 main_arg7 main_arg8 main_arg9 main_arg10 main_arg11 main_arg13 main_v14 main_v15 main_cst_5
-- ==== Kernel.lean ====
abbrev S4x512x1024 : Shape := ⟨3, ![4, 512, 1024]⟩
abbrev S4x8x2 : Shape := ⟨3, ![4, 8, 2]⟩
abbrev S8x1024 : Shape := ⟨2, ![8, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x8192 : Shape := ⟨2, ![1024, 8192]⟩
abbrev S512x1024 : Shape := ⟨2, ![512, 1024]⟩
abbrev S512 : Shape := ⟨1, ![512]⟩
abbrev S1536 : Shape := ⟨1, ![1536]⟩
abbrev S9x1536 : Shape := ⟨2, ![9, 1536]⟩
abbrev S9 : Shape := ⟨1, ![9]⟩
abbrev S1x1024 : Shape := ⟨2, ![1, 1024]⟩
abbrev S4x8x1 : Shape := ⟨3, ![4, 8, 1]⟩
abbrev S4x8 : Shape := ⟨2, ![4, 8]⟩
abbrev S4x1x8 : Shape := ⟨3, ![4, 1, 8]⟩
abbrev S1x512 : Shape := ⟨2, ![1, 512]⟩
abbrev S1x1536 : Shape := ⟨2, ![1, 1536]⟩
abbrev S1x9 : Shape := ⟨2, ![1, 9]⟩
abbrev S4x512x9 : Shape := ⟨3, ![4, 512, 9]⟩
abbrev S1024x2048 : Shape := ⟨2, ![1024, 2048]⟩
abbrev S1x512x1024 : Shape := ⟨3, ![1, 512, 1024]⟩
abbrev S1x1x8 : Shape := ⟨3, ![1, 1, 8]⟩
abbrev S1x512x9 : Shape := ⟨3, ![1, 512, 9]⟩
abbrev S512x8 : Shape := ⟨2, ![512, 8]⟩
abbrev S1x8 : Shape := ⟨2, ![1, 8]⟩
abbrev S512x512 : Shape := ⟨2, ![512, 512]⟩
abbrev S512x1 : Shape := ⟨2, ![512, 1]⟩
abbrev S9x1024 : Shape := ⟨2, ![9, 1024]⟩
abbrev S512x9 : Shape := ⟨2, ![512, 9]⟩
abbrev S9x512 : Shape := ⟨2, ![9, 512]⟩

abbrev nBuf : Space → Nat
  | .hbm => 30
  | .vmem => 24
  | .smem => 0
  | _ => 0

abbrev bufTy : (tb : Table) → Fin (tcTables nBuf tb) → BufTy
  | .hbm, ⟨0, _⟩ => ⟨S4x512x1024, .f32⟩
  | .hbm, ⟨1, _⟩ => ⟨S4x8x2, .i32⟩
  | .hbm, ⟨2, _⟩ => ⟨S8x1024, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S1024x8192, .f32⟩
  | .hbm, ⟨8, _⟩ => ⟨S1024, .f32⟩
  | .hbm, ⟨9, _⟩ => ⟨S512x1024, .f32⟩
  | .hbm, ⟨10, _⟩ => ⟨S512, .f32⟩
  | .hbm, ⟨11, _⟩ => ⟨S1536, .f32⟩
  | .hbm, ⟨12, _⟩ => ⟨S1536, .f32⟩
  | .hbm, ⟨13, _⟩ => ⟨S9x1536, .f32⟩
  | .hbm, ⟨14, _⟩ => ⟨S9, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S4x8x1, .i32⟩
  | .hbm, ⟨19, _⟩ => ⟨S4x8, .i32⟩
  | .hbm, ⟨20, _⟩ => ⟨S4x1x8, .i32⟩
  | .hbm, ⟨21, _⟩ => ⟨S4x8x1, .i32⟩
  | .hbm, ⟨22, _⟩ => ⟨S4x8, .i32⟩
  | .hbm, ⟨23, _⟩ => ⟨S4x1x8, .i32⟩
  | .hbm, ⟨24, _⟩ => ⟨S1x1024, .f32⟩
  | .hbm, ⟨25, _⟩ => ⟨S1x512, .f32⟩
  | .hbm, ⟨26, _⟩ => ⟨S1x1536, .f32⟩
  | .hbm, ⟨27, _⟩ => ⟨S1x1536, .f32⟩
  | .hbm, ⟨28, _⟩ => ⟨S1x9, .f32⟩
  | .hbm, ⟨29, _⟩ => ⟨S4x512x9, .f32⟩
  | .local _ .vmem, ⟨0, _⟩ => ⟨S8x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1x1024, .f32⟩
  | .local _ .vmem, ⟨5, _⟩ => ⟨S1024x2048, .f32⟩
  | .local _ .vmem, ⟨6, _⟩ => ⟨S1024x2048, .f32⟩
  | .local _ .vmem, ⟨7, _⟩ => ⟨S1x512x1024, .f32⟩
  | .local _ .vmem, ⟨8, _⟩ => ⟨S1x512x1024, .f32⟩
  | .local _ .vmem, ⟨9, _⟩ => ⟨S1x1x8, .i32⟩
  | .local _ .vmem, ⟨10, _⟩ => ⟨S1x1x8, .i32⟩
  | .local _ .vmem, ⟨11, _⟩ => ⟨S1x1x8, .i32⟩
  | .local _ .vmem, ⟨12, _⟩ => ⟨S1x1x8, .i32⟩
  | .local _ .vmem, ⟨13, _⟩ => ⟨S1x1024, .f32⟩
  | .local _ .vmem, ⟨14, _⟩ => ⟨S512x1024, .f32⟩
  | .local _ .vmem, ⟨15, _⟩ => ⟨S1x512, .f32⟩
  | .local _ .vmem, ⟨16, _⟩ => ⟨S1x1536, .f32⟩
  | .local _ .vmem, ⟨17, _⟩ => ⟨S1x1536, .f32⟩
  | .local _ .vmem, ⟨18, _⟩ => ⟨S9x1536, .f32⟩
  | .local _ .vmem, ⟨19, _⟩ => ⟨S1x9, .f32⟩
  | .local _ .vmem, ⟨20, _⟩ => ⟨S1x512x9, .f32⟩
  | .local _ .vmem, ⟨21, _⟩ => ⟨S1x512x9, .f32⟩
  | .local _ .vmem, ⟨22, _⟩ => ⟨S8x1024, .f32⟩
  | .local _ .vmem, ⟨23, _⟩ => ⟨S8x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_v0 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_off1 (i : grid0.Coords) (c0_i32_4 : BitVec 32) : Fin 2 → Nat :=
  let arg0 : BitVec 32 := BitVec.ofNat 32 (i 0).val
  let c2_i32 : BitVec 32 := 2#32
  let v9 : BitVec 32 := Scalar.muli arg0 c2_i32
  let v10 : BitVec 32 := Scalar.addi v9 c0_i32_4
  let v11 : Index := Scalar.indexCast v10
  let c0 : Index := 0#32
  ![v11.toNat, 0]
def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x8 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x8 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S9x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x9 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x512x9 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "inv_d" => some ((1 / 1536 : ℝ) : EReal)
  | _ => none
-- ==== ReferenceIdeal.lean ====
abbrev S4x512x1024 : Shape := ⟨3, ![4, 512, 1024]⟩
abbrev S4x8x2 : Shape := ⟨3, ![4, 8, 2]⟩
abbrev S8x1024 : Shape := ⟨2, ![8, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x8192 : Shape := ⟨2, ![1024, 8192]⟩
abbrev S512x1024 : Shape := ⟨2, ![512, 1024]⟩
abbrev S512 : Shape := ⟨1, ![512]⟩
abbrev S1536 : Shape := ⟨1, ![1536]⟩
abbrev S9x1536 : Shape := ⟨2, ![9, 1536]⟩
abbrev S9 : Shape := ⟨1, ![9]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S4x512x512 : Shape := ⟨3, ![4, 512, 512]⟩
abbrev S1x512x512 : Shape := ⟨3, ![1, 512, 512]⟩
abbrev S4x512x512x1 : Shape := ⟨4, ![4, 512, 512, 1]⟩
abbrev S4x512x512x2 : Shape := ⟨4, ![4, 512, 512, 2]⟩
abbrev S1x1x1024 : Shape := ⟨3, ![1, 1, 1024]⟩
abbrev S4x512x16x64 : Shape := ⟨4, ![4, 512, 16, 64]⟩
abbrev S1x1024 : Shape := ⟨2, ![1, 1024]⟩
abbrev S8x16x64 : Shape := ⟨3, ![8, 16, 64]⟩
abbrev S16x8x4x512 : Shape := ⟨4, ![16, 8, 4, 512]⟩
abbrev S4x512x8x16 : Shape := ⟨4, ![4, 512, 8, 16]⟩
abbrev S4x512x8x16x1 : Shape := ⟨5, ![4, 512, 8, 16, 1]⟩
abbrev S1x1x8x16x64 : Shape := ⟨5, ![1, 1, 8, 16, 64]⟩
abbrev S4x512x8x16x64 : Shape := ⟨5, ![4, 512, 8, 16, 64]⟩
abbrev S4x512x8x1024 : Shape := ⟨4, ![4, 512, 8, 1024]⟩
abbrev S1x1x1x1024 : Shape := ⟨4, ![1, 1, 1, 1024]⟩
abbrev S1x1x512 : Shape := ⟨3, ![1, 1, 512]⟩
abbrev S4x8x1 : Shape := ⟨3, ![4, 8, 1]⟩
abbrev S4x8x512 : Shape := ⟨3, ![4, 8, 512]⟩
abbrev S4x512x8 : Shape := ⟨3, ![4, 512, 8]⟩
abbrev S4x512x8x1 : Shape := ⟨4, ![4, 512, 8, 1]⟩
abbrev S4x512x8192 : Shape := ⟨3, ![4, 512, 8192]⟩
abbrev S8192x1024 : Shape := ⟨2, ![8192, 1024]⟩
abbrev S1024x512 : Shape := ⟨2, ![1024, 512]⟩
abbrev S4x512x1536 : Shape := ⟨3, ![4, 512, 1536]⟩
abbrev S4x512 : Shape := ⟨2, ![4, 512]⟩
abbrev S4x512x1 : Shape := ⟨3, ![4, 512, 1]⟩
abbrev S1x1x1536 : Shape := ⟨3, ![1, 1, 1536]⟩
abbrev S1536x9 : Shape := ⟨2, ![1536, 9]⟩
abbrev S4x512x9 : Shape := ⟨3, ![4, 512, 9]⟩
abbrev S1x1x9 : Shape := ⟨3, ![1, 1, 9]⟩

abbrev nBuf : Space → Nat
  | .hbm => 181
  | .vmem => 0
  | .smem => 0
  | _ => 0

abbrev hbmTy0_0 (i : Nat) : BufTy := match i % 128 with
  | 0 => ⟨S4x512x1024, .f32⟩
  | 1 => ⟨S4x8x2, .i32⟩
  | 2 => ⟨S8x1024, .f32⟩
  | 3 => ⟨S3072x1024, .f32⟩
  | 4 => ⟨S3072, .f32⟩
  | 5 => ⟨S1024x1024, .f32⟩
  | 6 => ⟨S1024, .f32⟩
  | 7 => ⟨S1024x8192, .f32⟩
  | 8 => ⟨S1024, .f32⟩
  | 9 => ⟨S512x1024, .f32⟩
  | 10 => ⟨S512, .f32⟩
  | 11 => ⟨S1536, .f32⟩
  | 12 => ⟨S1536, .f32⟩
  | 13 => ⟨S9x1536, .f32⟩
  | 14 => ⟨S9, .f32⟩
  | 15 => ⟨S512, .f32⟩
  | 16 => ⟨S512, .f32⟩
  | 17 => ⟨S_, .f32⟩
  | 18 => ⟨S512, .f32⟩
  | 19 => ⟨S512, .f32⟩
  | 20 => ⟨S_, .f32⟩
  | 21 => ⟨S512, .f32⟩
  | 22 => ⟨S512, .f32⟩
  | 23 => ⟨S_, .f32⟩
  | 24 => ⟨S512, .f32⟩
  | 25 => ⟨S512, .f32⟩
  | 26 => ⟨S_, .f32⟩
  | 27 => ⟨S512, .f32⟩
  | 28 => ⟨S512, .f32⟩
  | 29 => ⟨S_, .f32⟩
  | 30 => ⟨S512, .f32⟩
  | 31 => ⟨S512, .f32⟩
  | 32 => ⟨S512x1, .f32⟩
  | 33 => ⟨S1x512, .f32⟩
  | 34 => ⟨S512x512, .f32⟩
  | 35 => ⟨S512x512, .f32⟩
  | 36 => ⟨S512x512, .f32⟩
  | 37 => ⟨S512x512, .f32⟩
  | 38 => ⟨S512x512, .f32⟩
  | 39 => ⟨S4x512x512, .f32⟩
  | 40 => ⟨S4x512x512, .f32⟩
  | 41 => ⟨S1x512x512, .f32⟩
  | 42 => ⟨S4x512x512, .f32⟩
  | 43 => ⟨S4x512x512, .f32⟩
  | 44 => ⟨S1x512x512, .f32⟩
  | 45 => ⟨S4x512x512, .f32⟩
  | 46 => ⟨S4x512x512, .f32⟩
  | 47 => ⟨S4x512x512, .f32⟩
  | 48 => ⟨S1x512x512, .f32⟩
  | 49 => ⟨S4x512x512, .f32⟩
  | 50 => ⟨S4x512x512, .f32⟩
  | 51 => ⟨S1x512x512, .f32⟩
  | 52 => ⟨S4x512x512, .f32⟩
  | 53 => ⟨S4x512x512, .f32⟩
  | 54 => ⟨S4x512x512, .f32⟩
  | 55 => ⟨S4x512x512x1, .f32⟩
  | 56 => ⟨S4x512x512x1, .f32⟩
  | 57 => ⟨S4x512x512x2, .f32⟩
  | 58 => ⟨S4x512x1024, .f32⟩
  | 59 => ⟨S1024x1024, .f32⟩
  | 60 => ⟨S1024x1024, .f32⟩
  | 61 => ⟨S1024x1024, .f32⟩
  | 62 => ⟨S1024, .f32⟩
  | 63 => ⟨S1024, .f32⟩
  | 64 => ⟨S1024, .f32⟩
  | 65 => ⟨S1024x1024, .f32⟩
  | 66 => ⟨S4x512x1024, .f32⟩
  | 67 => ⟨S1x1x1024, .f32⟩
  | 68 => ⟨S4x512x1024, .f32⟩
  | 69 => ⟨S4x512x1024, .f32⟩
  | 70 => ⟨S4x512x16x64, .f32⟩
  | 71 => ⟨S1024x1024, .f32⟩
  | 72 => ⟨S8x1024, .f32⟩
  | 73 => ⟨S1x1024, .f32⟩
  | 74 => ⟨S8x1024, .f32⟩
  | 75 => ⟨S8x1024, .f32⟩
  | 76 => ⟨S8x16x64, .f32⟩
  | 77 => ⟨S1024x1024, .f32⟩
  | 78 => ⟨S8x1024, .f32⟩
  | 79 => ⟨S1x1024, .f32⟩
  | 80 => ⟨S8x1024, .f32⟩
  | 81 => ⟨S8x1024, .f32⟩
  | 82 => ⟨S8x16x64, .f32⟩
  | 83 => ⟨S16x8x4x512, .f32⟩
  | 84 => ⟨S4x512x8x16, .f32⟩
  | 85 => ⟨S_, .f32⟩
  | 86 => ⟨S_, .f32⟩
  | 87 => ⟨S_, .f32⟩
  | 88 => ⟨S4x512x8x16, .f32⟩
  | 89 => ⟨S4x512x8x16, .f32⟩
  | 90 => ⟨S4x512x8x16x1, .f32⟩
  | 91 => ⟨S_, .f32⟩
  | 92 => ⟨S4x512x8x16, .f32⟩
  | 93 => ⟨S_, .f32⟩
  | 94 => ⟨S4x512x8x16, .f32⟩
  | 95 => ⟨S4x512x8x16, .f32⟩
  | 96 => ⟨S4x512x8x16x1, .f32⟩
  | 97 => ⟨S4x512x8x16x1, .f32⟩
  | 98 => ⟨S4x512x8x16x1, .f32⟩
  | 99 => ⟨S_, .f32⟩
  | 100 => ⟨S4x512x8x16, .f32⟩
  | 101 => ⟨S4x512x8x16x1, .f32⟩
  | 102 => ⟨S4x512x8x16x1, .f32⟩
  | 103 => ⟨S4x512x8x16, .f32⟩
  | 104 => ⟨S4x512x8x16x1, .f32⟩
  | 105 => ⟨S1x1x8x16x64, .f32⟩
  | 106 => ⟨S4x512x8x16x64, .f32⟩
  | 107 => ⟨S4x512x8x16x64, .f32⟩
  | 108 => ⟨S4x512x8x16x64, .f32⟩
  | 109 => ⟨S4x512x8x1024, .f32⟩
  | 110 => ⟨S1024x1024, .f32⟩
  | 111 => ⟨S4x512x8x1024, .f32⟩
  | 112 => ⟨S1x1x1x1024, .f32⟩
  | 113 => ⟨S4x512x8x1024, .f32⟩
  | 114 => ⟨S4x512x8x1024, .f32⟩
  | 115 => ⟨S512, .i32⟩
  | 116 => ⟨S1x1x512, .i32⟩
  | 117 => ⟨S4x8x1, .i32⟩
  | 118 => ⟨S4x8x512, .i32⟩
  | 119 => ⟨S4x8x512, .i32⟩
  | 120 => ⟨S4x8x512, .i1⟩
  | 121 => ⟨S1x1x512, .i32⟩
  | 122 => ⟨S4x8x1, .i32⟩
  | 123 => ⟨S4x8x512, .i32⟩
  | 124 => ⟨S4x8x512, .i32⟩
  | 125 => ⟨S4x8x512, .i1⟩
  | 126 => ⟨S4x8x512, .i1⟩
  | 127 => ⟨S4x512x8, .i1⟩
  | _ => ⟨S4x512x1024, .f32⟩

abbrev hbmTy0_1 (i : Nat) : BufTy := match i % 128 with
  | 0 => ⟨S4x512x8, .f32⟩
  | 1 => ⟨S4x512x8x1, .f32⟩
  | 2 => ⟨S4x512x8x1024, .f32⟩
  | 3 => ⟨S4x512x8x1024, .f32⟩
  | 4 => ⟨S4x512x8192, .f32⟩
  | 5 => ⟨S8192x1024, .f32⟩
  | 6 => ⟨S4x512x1024, .f32⟩
  | 7 => ⟨S1x1x1024, .f32⟩
  | 8 => ⟨S4x512x1024, .f32⟩
  | 9 => ⟨S4x512x1024, .f32⟩
  | 10 => ⟨S_, .f32⟩
  | 11 => ⟨S4x512x1024, .f32⟩
  | 12 => ⟨S4x512x1024, .f32⟩
  | 13 => ⟨S1024x512, .f32⟩
  | 14 => ⟨S4x512x512, .f32⟩
  | 15 => ⟨S1x1x512, .f32⟩
  | 16 => ⟨S4x512x512, .f32⟩
  | 17 => ⟨S4x512x512, .f32⟩
  | 18 => ⟨S4x512x1536, .f32⟩
  | 19 => ⟨S_, .f32⟩
  | 20 => ⟨S4x512, .f32⟩
  | 21 => ⟨S4x512x1, .f32⟩
  | 22 => ⟨S_, .f32⟩
  | 23 => ⟨S4x512x1, .f32⟩
  | 24 => ⟨S4x512x1, .f32⟩
  | 25 => ⟨S4x512x1536, .f32⟩
  | 26 => ⟨S4x512x1536, .f32⟩
  | 27 => ⟨S4x512x1536, .f32⟩
  | 28 => ⟨S_, .f32⟩
  | 29 => ⟨S4x512, .f32⟩
  | 30 => ⟨S4x512x1, .f32⟩
  | 31 => ⟨S_, .f32⟩
  | 32 => ⟨S4x512x1, .f32⟩
  | 33 => ⟨S4x512x1, .f32⟩
  | 34 => ⟨S4x512x1536, .f32⟩
  | 35 => ⟨S4x512x1536, .f32⟩
  | 36 => ⟨S_, .f32⟩
  | 37 => ⟨S4x512x1, .f32⟩
  | 38 => ⟨S4x512x1, .f32⟩
  | 39 => ⟨S4x512x1, .f32⟩
  | 40 => ⟨S4x512x1536, .f32⟩
  | 41 => ⟨S4x512x1536, .f32⟩
  | 42 => ⟨S1x1x1536, .f32⟩
  | 43 => ⟨S4x512x1536, .f32⟩
  | 44 => ⟨S4x512x1536, .f32⟩
  | 45 => ⟨S1x1x1536, .f32⟩
  | 46 => ⟨S4x512x1536, .f32⟩
  | 47 => ⟨S4x512x1536, .f32⟩
  | 48 => ⟨S1536x9, .f32⟩
  | 49 => ⟨S4x512x9, .f32⟩
  | 50 => ⟨S1x1x9, .f32⟩
  | 51 => ⟨S4x512x9, .f32⟩
  | 52 => ⟨S4x512x9, .f32⟩
  | _ => ⟨S4x512x1024, .f32⟩

abbrev hbmTy (i : Nat) : BufTy := match i / 128 with
  | 0 => hbmTy0_0 i
  | 1 => hbmTy0_1 i
  | _ => ⟨S4x512x1024, .f32⟩

abbrev bufTy : (tb : Table) → Fin (tcTables nBuf tb) → BufTy
  | .hbm, ⟨i, _⟩ => hbmTy i
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_4 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_5 : Ref sig .tc := ⟨.hbm, 91, rfl⟩
abbrev main_v70 : Ref sig .tc := ⟨.hbm, 92, rfl⟩
abbrev main_cst_6 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_7 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_call0_cst : Ref sig .tc := ⟨.hbm, 138, rfl⟩
abbrev main_call0_v0 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_8 : Ref sig .tc := ⟨.hbm, 147, rfl⟩
abbrev main_v121 : Ref sig .tc := ⟨.hbm, 148, rfl⟩
abbrev main_v122 : Ref sig .tc := ⟨.hbm, 149, rfl⟩
abbrev main_cst_9 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_10 : Ref sig .tc := ⟨.hbm, 156, rfl⟩
abbrev main_v128 : Ref sig .tc := ⟨.hbm, 157, rfl⟩
abbrev main_v129 : Ref sig .tc := ⟨.hbm, 158, rfl⟩
abbrev main_cst_11 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_12 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩

abbrev nD : Nat := 1
abbrev τ : Topo := Topo.v7x

variable {F : FTy → Type} [FloatOps F]
-- ==== Proof.Run.Ctx.lean ====
/- What the three cases of the kernel's body share: the inputs' buffers, the row update, the conditions. -/
module

public import proofs.«01_k».proof.Proof.Gen.KernelIdeal.Frame
public import proofs.«01_k».proof.Proof.Gen.KernelIdeal.Skeleton
public import Idealize.ShloMosaic.Lib.ValueIdx
public import Idealize.ShloMosaic.Lib.WritesUnit
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The sixteen input buffers of a grid point, each owned whole at its block. -/
abbrev ins (c : Dev nD) (arg1 : Memref sig .tc .vmem S8x1024 .f32) (arg2 : Memref sig .tc .vmem S1024x1024 .f32) (arg3 : Memref sig .tc .vmem S1x1024 .f32) (arg4 : Memref sig .tc .vmem S1024x1024 .f32) (arg5 : Memref sig .tc .vmem S1x1024 .f32) (arg6 : Memref sig .tc .vmem S1024x2048 .f32) (arg7 : Memref sig .tc .vmem S1x512x1024 .f32) (arg8 : Memref sig .tc .vmem S1x1x8 .i32) (arg9 : Memref sig .tc .vmem S1x1x8 .i32) (arg10 : Memref sig .tc .vmem S1x1024 .f32) (arg11 : Memref sig .tc .vmem S512x1024 .f32) (arg12 : Memref sig .tc .vmem S1x512 .f32) (arg13 : Memref sig .tc .vmem S1x1536 .f32) (arg14 : Memref sig .tc .vmem S1x1536 .f32) (arg15 : Memref sig .tc .vmem S9x1536 .f32) (arg16 : Memref sig .tc .vmem S1x9 .f32)
    (x0 : Vec F S8x1024 .f32) (x1 : Vec F S1024x1024 .f32) (x2 : Vec F S1x1024 .f32) (x3 : Vec F S1024x1024 .f32) (x4 : Vec F S1x1024 .f32) (x5 : Vec F S1024x2048 .f32) (x6 : Vec F S1x512x1024 .f32) (x7 : Vec F S1x1x8 .i32) (x8 : Vec F S1x1x8 .i32) (x9 : Vec F S1x1024 .f32) (x10 : Vec F S512x1024 .f32) (x11 : Vec F S1x512 .f32) (x12 : Vec F S1x1536 .f32) (x13 : Vec F S1x1536 .f32) (x14 : Vec F S9x1536 .f32) (x15 : Vec F S1x9 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15)

/-- Owning a whole buffer at contents `X` is holding its cells at the raw contents that read `X`. -/
theorem owns_cells {c : Dev nD} {sp : Space} {s : Shape} {e : EltTy} {a : Memref sig .tc sp s e}
    (h : a.IsWhole) (X : s.Idx → Elt F e) :
    (owns (c : Thread nD τ) a fullShare X : sProp 𝕄) = (a.view.loc (c : Thread nD τ) ↦[a.view.set]{fullShare} h.unread X) := by
  unfold owns
  have h₁ : (iprop(∃ f, ⌜a.view.read (Elt F) f = X⌝ ∗ (a.view.loc (c : Thread nD τ) ↦[a.view.set]{fullShare} f)) : sProp 𝕄)
      ⊢ (a.view.loc (c : Thread nD τ) ↦[a.view.set]{fullShare} h.unread X) := by
    iintro ⟨%f, %hf, H⟩
    obtain rfl := h.eq_unread hf
    iexact H
  have h₂ : (a.view.loc (c : Thread nD τ) ↦[a.view.set]{fullShare} h.unread X : sProp 𝕄)
      ⊢ iprop(∃ f, ⌜a.view.read (Elt F) f = X⌝ ∗ (a.view.loc (c : Thread nD τ) ↦[a.view.set]{fullShare} f)) := by
    iintro H
    iexists _
    isplitr
    · ipureintro; exact h.read_unread _
    iexact H
  exact BI.equiv_iff.mp ⟨h₁, h₂⟩

/-- Row `o` of an 8×1024 array, as a 1×1024 array. -/
def rowOf (d : Vec F S8x1024 .f32) (o : ℕ) : Vec F S1x1024 .f32 := fun y => d (ix2 (Fin.ofNat 8 o) (y 1))

/-- The 1024 columns from column `o` of a 1024×2048 array. -/
def colsOf (d : Vec F S1024x2048 .f32) (o : ℕ) : Vec F S1024x1024 .f32 := fun y => d (ix2 (y 0) (Fin.ofNat 2048 (o + (y 1).val)))

/-- The 8×1024 array with rows `o` and `o + 1` replaced by the two given rows. -/
def setRows (o : ℕ) (p q : Vec F S1x1024 .f32) (g : Vec F S8x1024 .f32) : Vec F S8x1024 .f32 := fun y =>
  if (y 0).val = o + 1 then q (ix2 0 (y 1)) else if (y 0).val = o then p (ix2 0 (y 1)) else g y

/-- Loading a whole buffer reads its contents. -/
theorem load_full {s : Shape} {e : EltTy} {a : Memref sig .tc .vmem s e} (h : a.IsWhole) (d : s.Idx → Elt F e)
    {off : Fin s.rank → ℕ} (inb : ∀ a, off a + s.size a ≤ s.size a) :
    View.readAt (Elt F) a.view (Rect.unit (s := s) off s.size inb).toLoadRect (h.unread d) = d :=
  (View.readAt_full _ _ inb).trans (h.read_unread d)

/-- Storing a whole buffer leaves what was stored, whatever it held. -/
theorem store_full {s : Shape} {e : EltTy} {a : Memref sig .tc .vmem s e} (h : a.IsWhole) (f : a.view.ty.Contents (Elt F))
    (d : s.Idx → Elt F e) {off : Fin s.rank → ℕ} (inb : ∀ a, off a + s.size a ≤ s.size a) :
    a.view.writes (Elt F) f [⟨Rect.unit (s := s) off s.size inb, d⟩] = h.unread d := by
  apply h.eq_unread
  funext y
  exact View.read_writes_cons_unit_of_mem _ _ inb _ _ y y
    (show off = fun _ => 0 from funext fun a => by have := inb a; omega) (fun _ => (Nat.zero_add _).symm)

/-- Loading one whole row of an 8×1024 buffer reads that row. -/
theorem load_row {a : Memref sig .tc .vmem S8x1024 .f32} (h : a.IsWhole) (d : Vec F S8x1024 .f32)
    {off : Fin 2 → ℕ} (inb : ∀ a, off a + S1x1024.size a ≤ S8x1024.size a) {o : ℕ} (hoff : off = ![o, 0]) (ho : o < 8) :
    View.readAt (Elt F) a.view (Rect.unit (s := S8x1024) off S1x1024.size inb).toLoadRect (h.unread d) = rowOf d o := by
  subst hoff
  rw [View.readAt_eq_ld, Memref.IsWhole.read_unread]
  funext y
  show d _ = d _
  congr 1
  funext k
  match k with
  | ⟨0, _⟩ =>
    have : (y 0).val < 1 := (y 0).isLt
    exact Fin.ext (by show o + 1 * (y 0).val = o % 8; omega)
  | ⟨1, _⟩ => exact Fin.ext (by show 0 + 1 * (y 1).val = (y 1).val; omega)

/-- Loading 1024 whole columns of a 1024×2048 buffer reads those columns. -/
theorem load_cols {a : Memref sig .tc .vmem S1024x2048 .f32} (h : a.IsWhole) (d : Vec F S1024x2048 .f32) {o : ℕ}
    (inb : ∀ a, (![0, o] : Fin 2 → ℕ) a + S1024x1024.size a ≤ S1024x2048.size a) (ho : o + 1024 ≤ 2048) :
    View.readAt (Elt F) a.view (Rect.unit (s := S1024x2048) ![0, o] S1024x1024.size inb).toLoadRect (h.unread d) = colsOf d o := by
  rw [View.readAt_eq_ld, Memref.IsWhole.read_unread]
  funext y
  show d _ = d _
  congr 1
  funext k
  match k with
  | ⟨0, _⟩ => exact Fin.ext (by show 0 + 1 * (y 0).val = (y 0).val; omega)
  | ⟨1, _⟩ =>
    have : (y 1).val < 1024 := (y 1).isLt
    exact Fin.ext (by show o + 1 * (y 1).val = (o + (y 1).val) % 2048; omega)

/-- Storing one whole row and then the next leaves the array with those two rows replaced. -/
theorem store_rows {a : Memref sig .tc .vmem S8x1024 .f32} (h : a.IsWhole) (g : Vec F S8x1024 .f32) {o : ℕ}
    {off₁ off₀ : Fin 2 → ℕ} (inb₁ : ∀ a, off₁ a + S1x1024.size a ≤ S8x1024.size a)
    (inb₀ : ∀ a, off₀ a + S1x1024.size a ≤ S8x1024.size a) (h₁ : off₁ = ![o + 1, 0]) (h₀ : off₀ = ![o, 0])
    (q p : Vec F S1x1024 .f32) :
    a.view.writes (Elt F) (h.unread g)
        [⟨Rect.unit (s := S8x1024) off₁ S1x1024.size inb₁, q⟩, ⟨Rect.unit (s := S8x1024) off₀ S1x1024.size inb₀, p⟩]
      = h.unread (setRows o p q g) := by
  apply h.eq_unread
  funext y
  have hy : ∀ r, (y 0).val = r → ∀ k : Fin 2, (y k).val = (![r, 0] : Fin 2 → ℕ) k + ((ix2 0 (y 1) : S1x1024.Idx) k).val := by
    intro r hr k
    match k with
    | ⟨0, _⟩ => exact hr.trans (Nat.add_zero r).symm
    | ⟨1, _⟩ => exact (Nat.zero_add _).symm
  unfold setRows
  by_cases e₁ : (y 0).val = o + 1
  · rw [if_pos e₁]
    exact View.read_writes_cons_unit_of_mem _ _ inb₁ _ _ y (ix2 0 (y 1)) h₁ (hy _ e₁)
  · rw [if_neg e₁]
    rw [View.read_writes_cons_unit_of_not_mem _ _ inb₁ _ _ y h₁ 0 (by show (y 0).val < o + 1 ∨ o + 1 + 1 ≤ (y 0).val; omega)]
    by_cases e₀ : (y 0).val = o
    · rw [if_pos e₀]
      exact View.read_writes_cons_unit_of_mem _ _ inb₀ _ _ y (ix2 0 (y 1)) h₀ (hy _ e₀)
    · rw [if_neg e₀]
      rw [View.read_writes_cons_unit_of_not_mem _ _ inb₀ _ _ y h₀ 0 (by show (y 0).val < o ∨ o + 1 ≤ (y 0).val; omega)]
      exact congrFun (h.read_unread g) y

/-! ## The body's three conditions on the grid point -/

/-- The first grid point. -/
abbrev cond0 (i : grid0.Coords) : Prop := (Scalar.cmpi .ne (Scalar.extui (Scalar.cmpi .eq (BitVec.ofNat 32 (i 0).val) 0#32)) 0#32) = 1#1
/-- The points that project tags. -/
abbrev cond1 (i : grid0.Coords) : Prop := k0_cond2 i = 1#1
/-- The points that write a batch entry's output. -/
abbrev cond2 (i : grid0.Coords) : Prop := k0_cond3 i = 1#1

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ t.val < 4 :=
  (by decide +kernel : ∀ t : Fin grid0.N, cond1 (grid0.coords t) ↔ t.val < 4)
theorem hcond2 : ∀ t : Fin cfg0.N, cond2 (grid0.coords t) ↔ 4 ≤ t.val :=
  (by decide +kernel : ∀ t : Fin grid0.N, cond2 (grid0.coords t) ↔ 4 ≤ t.val)

/-- The output block of one batch entry, of the input blocks and the projected tags `g`. -/
def outPay (x6 : Vec F S1x512x1024 .f32) (x7 x8 : Vec F S1x1x8 .i32) (x9 : Vec F S1x1024 .f32) (x10 : Vec F S512x1024 .f32)
    (x11 : Vec F S1x512 .f32) (x12 x13 : Vec F S1x1536 .f32) (x14 : Vec F S9x1536 .f32) (x15 : Vec F S1x9 .f32)
    (g : Vec F S8x1024 .f32) : Vec F S1x512x9 .f32 :=
  k0_pay4 (k0_pay11 x13 x14 x15)
    (k0_pay12 (k0_pay5 x6) (k0_pay6 x7 x8 g x9 x10 x11) (k0_pay7 x6 x7 x8 g x9 x10 x11) (Named.named κ "inv_d" 0x3A2AAAAB#32) x14 x12)
    (k0_pay13 (k0_pay5 x6) (k0_pay6 x7 x8 g x9 x10 x11) (k0_pay7 x6 x7 x8 g x9 x10 x11) (Named.named κ "inv_d" 0x3A2AAAAB#32))
    (k0_pay14 x14 x12)

/-- The two rows a point writes: row `2t` first, row `2t + 1` second. -/
theorem hoff (t : Fin cfg0.N) (h : t.val < 4) :
    k0_off1 (grid0.coords t) 0#32 = ![2 * t.val, 0] ∧ k0_off1 (grid0.coords t) 1#32 = ![2 * t.val + 1, 0] :=
  (by decide +kernel : ∀ t : Fin grid0.N, t.val < 4 →
    k0_off1 (grid0.coords t) 0#32 = ![2 * t.val, 0] ∧ k0_off1 (grid0.coords t) 1#32 = ![2 * t.val + 1, 0]) t h

end Cert.KernelIdeal.Run

end
-- ==== Proof.Run.CaseA.lean ====
/- The body of the kernel at point 0: the attention block, and two tags projected. -/
module

public import proofs.«01_k».proof.Proof.Run.Ctx

@[expose] public section

set_option maxRecDepth 16384

noncomputable section

namespace Cert.KernelIdeal.Run

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  {arg1 : Memref sig .tc .vmem S8x1024 .f32} (harg1 : arg1.IsWhole)
  {arg2 : Memref sig .tc .vmem S1024x1024 .f32} (harg2 : arg2.IsWhole)
  {arg3 : Memref sig .tc .vmem S1x1024 .f32} (harg3 : arg3.IsWhole)
  {arg4 : Memref sig .tc .vmem S1024x1024 .f32} (harg4 : arg4.IsWhole)
  {arg5 : Memref sig .tc .vmem S1x1024 .f32} (harg5 : arg5.IsWhole)
  {arg6 : Memref sig .tc .vmem S1024x2048 .f32} (harg6 : arg6.IsWhole)
  {arg7 : Memref sig .tc .vmem S1x512x1024 .f32} (harg7 : arg7.IsWhole)
  {arg8 : Memref sig .tc .vmem S1x1x8 .i32} (harg8 : arg8.IsWhole)
  {arg9 : Memref sig .tc .vmem S1x1x8 .i32} (harg9 : arg9.IsWhole)
  {arg10 : Memref sig .tc .vmem S1x1024 .f32} (harg10 : arg10.IsWhole)
  {arg11 : Memref sig .tc .vmem S512x1024 .f32} (harg11 : arg11.IsWhole)
  {arg12 : Memref sig .tc .vmem S1x512 .f32} (harg12 : arg12.IsWhole)
  {arg13 : Memref sig .tc .vmem S1x1536 .f32} (harg13 : arg13.IsWhole)
  {arg14 : Memref sig .tc .vmem S1x1536 .f32} (harg14 : arg14.IsWhole)
  {arg15 : Memref sig .tc .vmem S9x1536 .f32} (harg15 : arg15.IsWhole)
  {arg16 : Memref sig .tc .vmem S1x9 .f32} (harg16 : arg16.IsWhole)
  {arg17 : Memref sig .tc .vmem S1x512x9 .f32} (harg17 : arg17.IsWhole)
  {arg18 : Memref sig .tc .vmem S8x1024 .f32} (harg18 : arg18.IsWhole)
  {arg19 : Memref sig .tc .vmem S8x1024 .f32} (harg19 : arg19.IsWhole)
  (x0 : Vec F S8x1024 .f32) (x1 : Vec F S1024x1024 .f32) (x2 : Vec F S1x1024 .f32) (x3 : Vec F S1024x1024 .f32) (x4 : Vec F S1x1024 .f32) (x5 : Vec F S1024x2048 .f32) (x6 : Vec F S1x512x1024 .f32) (x7 : Vec F S1x1x8 .i32) (x8 : Vec F S1x1x8 .i32) (x9 : Vec F S1x1024 .f32) (x10 : Vec F S512x1024 .f32) (x11 : Vec F S1x512 .f32) (x12 : Vec F S1x1536 .f32) (x13 : Vec F S1x1536 .f32) (x14 : Vec F S9x1536 .f32) (x15 : Vec F S1x9 .f32)

variable (z : Vec F S1x512x9 .f32) (a g : Vec F S8x1024 .f32) (o : ℕ)

set_option maxHeartbeats 2000000 in
/-- At point 0 the first scratch becomes the attention block of all eight tags, and rows `o` and `o + 1` of the second scratch become the
    products of the same rows of it with the two 1024-column halves of the weight block. -/
theorem runA (hc0 : cond0 i) (hc1 : cond1 i) (hc2 : ¬cond2 i) (hoff0 : k0_off1 i 0#32 = ![o, 0]) (hoff1 : k0_off1 i 1#32 = ![o + 1, 0]) (ho : o + 1 < 8) (E : Set ℕ) (K : PUnit → sProp 𝕄) :
    iprop(ins c arg1 arg2 arg3 arg4 arg5 arg6 arg7 arg8 arg9 arg10 arg11 arg12 arg13 arg14 arg15 arg16 x0 x1 x2 x3 x4 x5 x6 x7 x8 x9 x10 x11 x12 x13 x14 x15 ∗ owns (c : Thread nD τ) arg17 fullShare z ∗ owns (c : Thread nD τ) arg18 fullShare a ∗ owns (c : Thread nD τ) arg19 fullShare g
        ∗ (iprop(ins c arg1 arg2 arg3 arg4 arg5 arg6 arg7 arg8 arg9 arg10 arg11 arg12 arg13 arg14 arg15 arg16 x0 x1 x2 x3 x4 x5 x6 x7 x8 x9 x10 x11 x12 x13 x14 x15 ∗ owns (c : Thread nD τ) arg17 fullShare z ∗ owns (c : Thread nD τ) arg18 fullShare (k0_pay1 x0 x1 x2 x3 x4)
          ∗ owns (c : Thread nD τ) arg19 fullShare (setRows o (k0_pay2 (rowOf (k0_pay1 x0 x1 x2 x3 x4) o) (colsOf x5 0)) (k0_pay3 (rowOf (k0_pay1 x0 x1 x2 x3 x4) (o + 1)) (colsOf x5 1024)) g)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_kernel_eq_skeleton]; unfold cc0__fused_kernel_skel
  unfold ins
  simp only [owns_cells harg1, owns_cells harg2, owns_cells harg3, owns_cells harg4, owns_cells harg5, owns_cells harg6, owns_cells harg7, owns_cells harg8, owns_cells harg9, owns_cells harg10, owns_cells harg11, owns_cells harg12, owns_cells harg13, owns_cells harg14, owns_cells harg15, owns_cells harg16, owns_cells harg17, owns_cells harg18, owns_cells harg19]
  iintro ⟨⟨H0, H1, H2, H3, H4, H5, H6, H7, H8, H9, H10, H11, H12, H13, H14, H15⟩, H16, HS0, HS1, Hk⟩
  sl_exec (disch := first | sl_exact hc0 | sl_exact hc1 | sl_exact hc2)
  sl_step
  iapply Hk
  isplitl [H0 H1 H2 H3 H4 H5 H6 H7 H8 H9 H10 H11 H12 H13 H14 H15]
  · iframe
  delta runA.sl.v12 runA.sl.v22 runA.sl.HS0_1
  rw [load_full harg1 x0, load_full harg2 x1, load_full harg3 x2, load_full harg4 x3, load_full harg5 x4,
    store_full harg18 _ (k0_pay1 x0 x1 x2 x3 x4), load_row harg18 _ _ hoff0 (by omega), load_row harg18 _ _ hoff1 ho,
    load_cols harg6 x5 _ (by omega), load_cols harg6 x5 _ (by omega), store_rows harg19 g _ _ hoff1 hoff0]
  iframe

end Cert.KernelIdeal.Run

end
-- ==== Proof.Run.CaseB.lean ====
/- The body of the kernel at points 1, 2, 3: two tags are projected. -/
module

public import proofs.«01_k».proof.Proof.Run.Ctx

@[expose] public section

set_option maxRecDepth 16384

noncomputable section

namespace Cert.KernelIdeal.Run

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  {arg1 : Memref sig .tc .vmem S8x1024 .f32} (harg1 : arg1.IsWhole)
  {arg2 : Memref sig .tc .vmem S1024x1024 .f32} (harg2 : arg2.IsWhole)
  {arg3 : Memref sig .tc .vmem S1x1024 .f32} (harg3 : arg3.IsWhole)
  {arg4 : Memref sig .tc .vmem S1024x1024 .f32} (harg4 : arg4.IsWhole)
  {arg5 : Memref sig .tc .vmem S1x1024 .f32} (harg5 : arg5.IsWhole)
  {arg6 : Memref sig .tc .vmem S1024x2048 .f32} (harg6 : arg6.IsWhole)
  {arg7 : Memref sig .tc .vmem S1x512x1024 .f32} (harg7 : arg7.IsWhole)
  {arg8 : Memref sig .tc .vmem S1x1x8 .i32} (harg8 : arg8.IsWhole)
  {arg9 : Memref sig .tc .vmem S1x1x8 .i32} (harg9 : arg9.IsWhole)
  {arg10 : Memref sig .tc .vmem S1x1024 .f32} (harg10 : arg10.IsWhole)
  {arg11 : Memref sig .tc .vmem S512x1024 .f32} (harg11 : arg11.IsWhole)
  {arg12 : Memref sig .tc .vmem S1x512 .f32} (harg12 : arg12.IsWhole)
  {arg13 : Memref sig .tc .vmem S1x1536 .f32} (harg13 : arg13.IsWhole)
  {arg14 : Memref sig .tc .vmem S1x1536 .f32} (harg14 : arg14.IsWhole)
  {arg15 : Memref sig .tc .vmem S9x1536 .f32} (harg15 : arg15.IsWhole)
  {arg16 : Memref sig .tc .vmem S1x9 .f32} (harg16 : arg16.IsWhole)
  {arg17 : Memref sig .tc .vmem S1x512x9 .f32} (harg17 : arg17.IsWhole)
  {arg18 : Memref sig .tc .vmem S8x1024 .f32} (harg18 : arg18.IsWhole)
  {arg19 : Memref sig .tc .vmem S8x1024 .f32} (harg19 : arg19.IsWhole)
  (x0 : Vec F S8x1024 .f32) (x1 : Vec F S1024x1024 .f32) (x2 : Vec F S1x1024 .f32) (x3 : Vec F S1024x1024 .f32) (x4 : Vec F S1x1024 .f32) (x5 : Vec F S1024x2048 .f32) (x6 : Vec F S1x512x1024 .f32) (x7 : Vec F S1x1x8 .i32) (x8 : Vec F S1x1x8 .i32) (x9 : Vec F S1x1024 .f32) (x10 : Vec F S512x1024 .f32) (x11 : Vec F S1x512 .f32) (x12 : Vec F S1x1536 .f32) (x13 : Vec F S1x1536 .f32) (x14 : Vec F S9x1536 .f32) (x15 : Vec F S1x9 .f32)

variable (z : Vec F S1x512x9 .f32) (a g : Vec F S8x1024 .f32) (o : ℕ)

set_option maxHeartbeats 2000000 in
/-- At points 1, 2, 3 rows `o` and `o + 1` of the second scratch become the products of the same rows of the first scratch with the two
    1024-column halves of the weight block; every other buffer is left as it was. -/
theorem runB (hc0 : ¬cond0 i) (hc1 : cond1 i) (hc2 : ¬cond2 i) (hoff0 : k0_off1 i 0#32 = ![o, 0]) (hoff1 : k0_off1 i 1#32 = ![o + 1, 0]) (ho : o + 1 < 8) (E : Set ℕ) (K : PUnit → sProp 𝕄) :
    iprop(ins c arg1 arg2 arg3 arg4 arg5 arg6 arg7 arg8 arg9 arg10 arg11 arg12 arg13 arg14 arg15 arg16 x0 x1 x2 x3 x4 x5 x6 x7 x8 x9 x10 x11 x12 x13 x14 x15 ∗ owns (c : Thread nD τ) arg17 fullShare z ∗ owns (c : Thread nD τ) arg18 fullShare a ∗ owns (c : Thread nD τ) arg19 fullShare g
        ∗ (iprop(ins c arg1 arg2 arg3 arg4 arg5 arg6 arg7 arg8 arg9 arg10 arg11 arg12 arg13 arg14 arg15 arg16 x0 x1 x2 x3 x4 x5 x6 x7 x8 x9 x10 x11 x12 x13 x14 x15 ∗ owns (c : Thread nD τ) arg17 fullShare z ∗ owns (c : Thread nD τ) arg18 fullShare a ∗ owns (c : Thread nD τ) arg19 fullShare (setRows o (k0_pay2 (rowOf a o) (colsOf x5 0)) (k0_pay3 (rowOf a (o + 1)) (colsOf x5 1024)) g)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_kernel_eq_skeleton]; unfold cc0__fused_kernel_skel
  unfold ins
  simp only [owns_cells harg1, owns_cells harg2, owns_cells harg3, owns_cells harg4, owns_cells harg5, owns_cells harg6, owns_cells harg7, owns_cells harg8, owns_cells harg9, owns_cells harg10, owns_cells harg11, owns_cells harg12, owns_cells harg13, owns_cells harg14, owns_cells harg15, owns_cells harg16, owns_cells harg17, owns_cells harg18, owns_cells harg19]
  iintro ⟨⟨H0, H1, H2, H3, H4, H5, H6, H7, H8, H9, H10, H11, H12, H13, H14, H15⟩, H16, HS0, HS1, Hk⟩
  sl_exec (disch := first | sl_exact hc0 | sl_exact hc1 | sl_exact hc2)
  sl_step
  iapply Hk
  isplitl [H0 H1 H2 H3 H4 H5 H6 H7 H8 H9 H10 H11 H12 H13 H14 H15]
  · iframe
  delta runB.sl.v12 runB.sl.v22
  rw [load_row harg18 a _ hoff0 (by omega), load_row harg18 a _ hoff1 ho, load_cols harg6 x5 _ (by omega),
    load_cols harg6 x5 _ (by omega), store_rows harg19 g _ _ hoff1 hoff0]
  iframe

end Cert.KernelIdeal.Run

end
-- ==== Proof.Run.CaseC.lean ====
/- The body of the kernel at points 4 to 7: one batch entry of the output. -/
module

public import proofs.«01_k».proof.Proof.Run.Ctx

@[expose] public section

set_option maxRecDepth 16384

noncomputable section

namespace Cert.KernelIdeal.Run

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  {arg1 : Memref sig .tc .vmem S8x1024 .f32} (harg1 : arg1.IsWhole)
  {arg2 : Memref sig .tc .vmem S1024x1024 .f32} (harg2 : arg2.IsWhole)
  {arg3 : Memref sig .tc .vmem S1x1024 .f32} (harg3 : arg3.IsWhole)
  {arg4 : Memref sig .tc .vmem S1024x1024 .f32} (harg4 : arg4.IsWhole)
  {arg5 : Memref sig .tc .vmem S1x1024 .f32} (harg5 : arg5.IsWhole)
  {arg6 : Memref sig .tc .vmem S1024x2048 .f32} (harg6 : arg6.IsWhole)
  {arg7 : Memref sig .tc .vmem S1x512x1024 .f32} (harg7 : arg7.IsWhole)
  {arg8 : Memref sig .tc .vmem S1x1x8 .i32} (harg8 : arg8.IsWhole)
  {arg9 : Memref sig .tc .vmem S1x1x8 .i32} (harg9 : arg9.IsWhole)
  {arg10 : Memref sig .tc .vmem S1x1024 .f32} (harg10 : arg10.IsWhole)
  {arg11 : Memref sig .tc .vmem S512x1024 .f32} (harg11 : arg11.IsWhole)
  {arg12 : Memref sig .tc .vmem S1x512 .f32} (harg12 : arg12.IsWhole)
  {arg13 : Memref sig .tc .vmem S1x1536 .f32} (harg13 : arg13.IsWhole)
  {arg14 : Memref sig .tc .vmem S1x1536 .f32} (harg14 : arg14.IsWhole)
  {arg15 : Memref sig .tc .vmem S9x1536 .f32} (harg15 : arg15.IsWhole)
  {arg16 : Memref sig .tc .vmem S1x9 .f32} (harg16 : arg16.IsWhole)
  {arg17 : Memref sig .tc .vmem S1x512x9 .f32} (harg17 : arg17.IsWhole)
  {arg18 : Memref sig .tc .vmem S8x1024 .f32} (harg18 : arg18.IsWhole)
  {arg19 : Memref sig .tc .vmem S8x1024 .f32} (harg19 : arg19.IsWhole)
  (x0 : Vec F S8x1024 .f32) (x1 : Vec F S1024x1024 .f32) (x2 : Vec F S1x1024 .f32) (x3 : Vec F S1024x1024 .f32) (x4 : Vec F S1x1024 .f32) (x5 : Vec F S1024x2048 .f32) (x6 : Vec F S1x512x1024 .f32) (x7 : Vec F S1x1x8 .i32) (x8 : Vec F S1x1x8 .i32) (x9 : Vec F S1x1024 .f32) (x10 : Vec F S512x1024 .f32) (x11 : Vec F S1x512 .f32) (x12 : Vec F S1x1536 .f32) (x13 : Vec F S1x1536 .f32) (x14 : Vec F S9x1536 .f32) (x15 : Vec F S1x9 .f32)

variable (z : Vec F S1x512x9 .f32) (a g : Vec F S8x1024 .f32) (o : ℕ)

set_option maxHeartbeats 2000000 in
/-- At points 4 to 7 the output block becomes the entry the tail computes of the input blocks and the second scratch; every other buffer is
    left as it was. -/
theorem runC (hc0 : ¬cond0 i) (hc1 : ¬cond1 i) (hc2 : cond2 i) (E : Set ℕ) (K : PUnit → sProp 𝕄) :
    iprop(ins c arg1 arg2 arg3 arg4 arg5 arg6 arg7 arg8 arg9 arg10 arg11 arg12 arg13 arg14 arg15 arg16 x0 x1 x2 x3 x4 x5 x6 x7 x8 x9 x10 x11 x12 x13 x14 x15 ∗ owns (c : Thread nD τ) arg17 fullShare z ∗ owns (c : Thread nD τ) arg18 fullShare a ∗ owns (c : Thread nD τ) arg19 fullShare g
        ∗ (iprop(ins c arg1 arg2 arg3 arg4 arg5 arg6 arg7 arg8 arg9 arg10 arg11 arg12 arg13 arg14 arg15 arg16 x0 x1 x2 x3 x4 x5 x6 x7 x8 x9 x10 x11 x12 x13 x14 x15 ∗ owns (c : Thread nD τ) arg17 fullShare (outPay x6 x7 x8 x9 x10 x11 x12 x13 x14 x15 g) ∗ owns (c : Thread nD τ) arg18 fullShare a ∗ owns (c : Thread nD τ) arg19 fullShare g) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_kernel_eq_skeleton]; unfold cc0__fused_kernel_skel
  simp only [k0_part1_eq_skeleton, k0_part2_eq_skeleton]
  unfold k0_part1_skel k0_part2_skel
  unfold ins
  simp only [owns_cells harg1, owns_cells harg2, owns_cells harg3, owns_cells harg4, owns_cells harg5, owns_cells harg6, owns_cells harg7, owns_cells harg8, owns_cells harg9, owns_cells harg10, owns_cells harg11, owns_cells harg12, owns_cells harg13, owns_cells harg14, owns_cells harg15, owns_cells harg16, owns_cells harg17, owns_cells harg18, owns_cells harg19]
  iintro ⟨⟨H0, H1, H2, H3, H4, H5, H6, H7, H8, H9, H10, H11, H12, H13, H14, H15⟩, H16, HS0, HS1, Hk⟩
  sl_exec (disch := first | sl_exact hc0 | sl_exact hc1 | sl_exact hc2)
  sl_step
  iapply Hk
  isplitl [H0 H1 H2 H3 H4 H5 H6 H7 H8 H9 H10 H11 H12 H13 H14 H15]
  · iframe
  rw [store_full harg17]
  rw [load_full harg7 x6, load_full harg8 x7, load_full harg9 x8, load_full harg10 x9, load_full harg11 x10, load_full harg12 x11, load_full harg13 x12, load_full harg14 x13, load_full harg15 x14, load_full harg16 x15, load_full harg19 g]
  unfold outPay
  iframe

end Cert.KernelIdeal.Run

end
-- ==== Proof.Run.Launch.lean ====
/- The launch of the kernel: what the scratch and the output buffer hold after each grid point, and the run. -/
module

public import proofs.«01_k».proof.Proof.Run.CaseA
public import proofs.«01_k».proof.Proof.Run.CaseB
public import proofs.«01_k».proof.Proof.Run.CaseC
public import proofs.«01_k».proof.Proof.Gen.KernelIdeal.Points
public import Idealize.ShloMosaic.Lib.Pipeline.FrameBody
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold -/

/-- The first grid point. -/
def t0 : Fin cfg0.N := ⟨0, by rw [show cfg0.N = 8 from N_0]; decide⟩

/-- The grid point that writes row `r` of the projected tags. -/
def tRow (r : Fin 8) : Fin cfg0.N := ⟨r.val / 2, by rw [show cfg0.N = 8 from N_0]; omega⟩

/-- The attention block of the eight tags, computed at the first point from the blocks found there. -/
def attn (c : Dev nD) : Vec F S8x1024 .f32 :=
  k0_pay1 (iblk m c 0 t0) (iblk m c 1 t0) (iblk m c 2 t0) (iblk m c 3 t0) (iblk m c 4 t0)

/-- The projected tags: each row of the attention block times the 1024 columns of the first projection that belong to the row. -/
def gfull (c : Dev nD) : Vec F S8x1024 .f32 := fun y =>
  if (y 0).val % 2 = 0 then k0_pay2 (rowOf (attn m c) (y 0).val) (colsOf (iblk m c 5 (tRow (y 0))) 0) (ix2 0 (y 1))
  else k0_pay3 (rowOf (attn m c) (y 0).val) (colsOf (iblk m c 5 (tRow (y 0))) 1024) (ix2 0 (y 1))

/-- Before point `n` the first `2n` rows of `g` are rows of the projected tags. -/
def Known (c : Dev nD) (n : ℕ) (g : Vec F S8x1024 .f32) : Prop := ∀ y : S8x1024.Idx, (y 0).val < 2 * n → g y = gfull m c y

/-- A point below 4 writes its two rows of the projected tags. -/
theorem known_step (c : Dev nD) (t : Fin cfg0.N) (h : t.val < 4) (g : Vec F S8x1024 .f32) (hg : Known m c t.val g) :
    Known m c (t.val + 1) (setRows (2 * t.val) (k0_pay2 (rowOf (attn m c) (2 * t.val)) (colsOf (iblk m c 5 t) 0))
      (k0_pay3 (rowOf (attn m c) (2 * t.val + 1)) (colsOf (iblk m c 5 t) 1024)) g) := by
  intro y hy
  unfold setRows gfull
  have ht : ∀ r : Fin 8, r.val = 2 * t.val ∨ r.val = 2 * t.val + 1 → tRow r = t := by
    intro r hr
    exact Fin.ext (by show r.val / 2 = t.val; omega)
  by_cases e₁ : (y 0).val = 2 * t.val + 1
  · rw [if_pos e₁, if_neg (by omega), ht (y 0) (Or.inr e₁), e₁]
  · rw [if_neg e₁]
    by_cases e₀ : (y 0).val = 2 * t.val
    · rw [if_pos e₀, if_pos (by omega), ht (y 0) (Or.inl e₀), e₀]
    · rw [if_neg e₀]
      exact hg y (by omega)

/-- From point 4 on every row is written. -/
theorem known_full (c : Dev nD) (n : ℕ) (h : 4 ≤ n) (g : Vec F S8x1024 .f32) (hg : Known m c n g) : g = gfull m c := by
  funext y
  exact hg y (by have : (y 0).val < 8 := (y 0).isLt; omega)

/-- What the output's block holds after a point that computes it. -/
def outBlk (c : Dev nD) (t : Fin cfg0.N) : Vec F S1x512x9 .f32 :=
  outPay (iblk m c 6 t) (iblk m c 7 t) (iblk m c 8 t) (iblk m c 9 t) (iblk m c 10 t) (iblk m c 11 t) (iblk m c 12 t) (iblk m c 13 t)
    (iblk m c 14 t) (iblk m c 15 t) (gfull m c)

/-! ## The invariant and the proof data -/

abbrev scM0 : Memref sig .tc .vmem S8x1024 .f32 := Memref.whole cc0_scratch0
abbrev scM1 : Memref sig .tc .vmem S8x1024 .f32 := Memref.whole cc0_scratch1

/-- The two scratch buffers at anything, and the generator register. -/
theorem phiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before point `n`: at the first the scratch at anything; afterwards the attention block in the first scratch and the rows written so far
    in the second. -/
def Phi (c : Dev nD) (n : ℕ) : sProp 𝕄 :=
  iprop(iprop((∃ a, ⌜n ≠ 0 → a = attn m c⌝ ∗ owns (c : Thread nD τ) scM0 fullShare a)
    ∗ (∃ g, ⌜Known m c n g⌝ ∗ owns (c : Thread nD τ) scM1 fullShare g)) ∗ (∃ r, prngReg c r))

/-- The proof data: the arrays as the region finds them, each input's buffer left at its block, the output's at `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outBlk m c t
    | ⟨_ + 17, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by
  dsimp only [dats]

/-- Each input's buffer is handed to the body at its block, and is left so. -/
theorem before_in (c : Dev nD) (t : Fin cfg0.N) :
    (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t)
    ∧ (∀ d, (dats m 0 c).before 7 t d = iblk m c 7 t)
    ∧ (∀ d, (dats m 0 c).before 8 t d = iblk m c 8 t)
    ∧ (∀ d, (dats m 0 c).before 9 t d = iblk m c 9 t)
    ∧ (∀ d, (dats m 0 c).before 10 t d = iblk m c 10 t)
    ∧ (∀ d, (dats m 0 c).before 11 t d = iblk m c 11 t)
    ∧ (∀ d, (dats m 0 c).before 12 t d = iblk m c 12 t)
    ∧ (∀ d, (dats m 0 c).before 13 t d = iblk m c 13 t)
    ∧ (∀ d, (dats m 0 c).before 14 t d = iblk m c 14 t)
    ∧ (∀ d, (dats m 0 c).before 15 t d = iblk m c 15 t) :=
  ⟨before0_0_of m (dats m 0 c) (A_eq m c 0) (fun _ => by dsimp only [dats]) t,
   before0_1_of m (dats m 0 c) (A_eq m c 1) (fun _ => by dsimp only [dats]) t,
   before0_2_of m (dats m 0 c) (A_eq m c 2) (fun _ => by dsimp only [dats]) t,
   before0_3_of m (dats m 0 c) (A_eq m c 3) (fun _ => by dsimp only [dats]) t,
   before0_4_of m (dats m 0 c) (A_eq m c 4) (fun _ => by dsimp only [dats]) t,
   before0_5_of m (dats m 0 c) (A_eq m c 5) (fun _ => by dsimp only [dats]) t,
   before0_6_of m (dats m 0 c) (A_eq m c 6) (fun _ => by dsimp only [dats]) t,
   before0_7_of m (dats m 0 c) (A_eq m c 7) (fun _ => by dsimp only [dats]) t,
   before0_8_of m (dats m 0 c) (A_eq m c 8) (fun _ => by dsimp only [dats]) t,
   before0_9_of m (dats m 0 c) (A_eq m c 9) (fun _ => by dsimp only [dats]) t,
   before0_10_of m (dats m 0 c) (A_eq m c 10) (fun _ => by dsimp only [dats]) t,
   before0_11_of m (dats m 0 c) (A_eq m c 11) (fun _ => by dsimp only [dats]) t,
   before0_12_of m (dats m 0 c) (A_eq m c 12) (fun _ => by dsimp only [dats]) t,
   before0_13_of m (dats m 0 c) (A_eq m c 13) (fun _ => by dsimp only [dats]) t,
   before0_14_of m (dats m 0 c) (A_eq m c 14) (fun _ => by dsimp only [dats]) t,
   before0_15_of m (dats m 0 c) (A_eq m c 15) (fun _ => by dsimp only [dats]) t⟩

abbrev ms0 (t : Fin cfg0.N) : Memref sig .tc .vmem S8x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x8 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x8 .i32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x1536 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x1536 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S9x1536 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x9 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x512x9 .f32 := win0_16.stage (cfg0.slots t 16)
abbrev hs16 (t : Fin cfg0.N) : (ms16 t).IsWhole := hstage0_16 ((cfg0.slots t 16).cast nbuf0_16)

/-- The body at a point, over its buffers and the two scratches. -/
abbrev bodyProg (t : Fin cfg0.N) :=
  cc0__fused_kernel (F := F) (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t)
    scM0 (Memref.isWhole_whole _) scM1 (Memref.isWhole_whole _)

/-- The inputs' buffers, the output's at `z` and the scratches at `a` and `g`. -/
abbrev st (c : Dev nD) (t : Fin cfg0.N) (z : Vec F S1x512x9 .f32) (a g : Vec F S8x1024 .f32) : sProp 𝕄 :=
  iprop(ins c (ms0 t) (ms1 t) (ms2 t) (ms3 t) (ms4 t) (ms5 t) (ms6 t) (ms7 t) (ms8 t) (ms9 t) (ms10 t) (ms11 t) (ms12 t) (ms13 t) (ms14 t) (ms15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    ∗ owns (c : Thread nD τ) (ms16 t) fullShare z ∗ owns (c : Thread nD τ) scM0 fullShare a ∗ owns (c : Thread nD τ) scM1 fullShare g)

/-- What the body is called with, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

theorem out_idle : ∀ t : Fin cfg0.N, t.val < 4 → cfg0.idle 16 (grid0.coords t) = true :=
  (by decide +kernel : ∀ t : Fin grid0.N, t.val < 4 → cfg0.idle 16 (grid0.coords t) = true)
theorem out_live : ∀ t : Fin cfg0.N, 4 ≤ t.val → cfg0.idle 16 (grid0.coords t) = false :=
  (by decide +kernel : ∀ t : Fin grid0.N, 4 ≤ t.val → cfg0.idle 16 (grid0.coords t) = false)
theorem out_flush : ∀ t : Fin cfg0.N, t.val < 4 → (cfg0.win 16).flush t = false :=
  (by decide +kernel : ∀ t : Fin grid0.N, t.val < 4 → (cfg0.win 16).flush t = false)

/-- The body at any point: from the buffers and scratches as found to some contents `z'`, `a'`, `g'` with the stated properties. -/
theorem body_step (c : Dev nD) (t : Fin cfg0.N) (z : Vec F S1x512x9 .f32) (a g : Vec F S8x1024 .f32) (ha : t.val ≠ 0 → a = attn m c)
    (hg : Known m c t.val g) (K : PUnit → sProp 𝕄) :
    iprop(st m c t z a g ∗ (∀ z' g', ⌜(t.val < 4 → z' = z) ∧ (4 ≤ t.val → z' = outBlk m c t) ∧ Known m c (t.val + 1) g'⌝ -∗ st m c t z' (attn m c) g' -∗ K ⟨⟩))
      ⊢ wp frame (wpE (defs₀ (F := F)) Variants.none c none) Set.univ (bodyProg t) K := by
  by_cases h1 : t.val < 4
  · obtain ⟨ho0, ho1⟩ := hoff t h1
    by_cases h0 : t.val = 0
    · have hatt : k0_pay1 (iblk m c 0 t) (iblk m c 1 t) (iblk m c 2 t) (iblk m c 3 t) (iblk m c 4 t) = attn m c := by
        obtain rfl : t = t0 := Fin.ext h0
        rfl
      have hk := known_step m c t h1 g hg
      iintro ⟨⟨Hi, Hz, Ha, Hg⟩, Hk⟩
      iapply (runA c (grid0.coords t) (hs0 t) (hs1 t) (hs2 t) (hs3 t) (hs4 t) (hs5 t) (hs6 t) (hs7 t) (hs8 t) (hs9 t) (hs10 t) (hs11 t) (hs12 t) (hs13 t) (hs14 t) (hs15 t) (hs16 t) (Memref.isWhole_whole _) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) z a g (2 * t.val) ((hcond0 t).mpr h0) ((hcond1 t).mpr h1) (fun h => absurd ((hcond2 t).mp h) (by omega)) ho0 ho1 (by omega) Set.univ _)
      rw [hatt]
      isplitl [Hi]; · iexact Hi
      isplitl [Hz]; · iexact Hz
      isplitl [Ha]; · iexact Ha
      isplitl [Hg]; · iexact Hg
      iintro H
      iapply Hk $$ %z %_ []
      · ipureintro; exact ⟨fun _ => rfl, fun h => absurd h (by omega), hk⟩
      iexact H
    · have hk := known_step m c t h1 g hg
      obtain rfl := ha h0
      iintro ⟨⟨Hi, Hz, Ha, Hg⟩, Hk⟩
      iapply (runB c (grid0.coords t) (hs0 t) (hs1 t) (hs2 t) (hs3 t) (hs4 t) (hs5 t) (hs6 t) (hs7 t) (hs8 t) (hs9 t) (hs10 t) (hs11 t) (hs12 t) (hs13 t) (hs14 t) (hs15 t) (hs16 t) (Memref.isWhole_whole _) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) z (attn m c) g (2 * t.val) (fun h => h0 ((hcond0 t).mp h)) ((hcond1 t).mpr h1) (fun h => absurd ((hcond2 t).mp h) (by omega)) ho0 ho1 (by omega) Set.univ _)
      isplitl [Hi]; · iexact Hi
      isplitl [Hz]; · iexact Hz
      isplitl [Ha]; · iexact Ha
      isplitl [Hg]; · iexact Hg
      iintro H
      iapply Hk $$ %z %_ []
      · ipureintro; exact ⟨fun _ => rfl, fun h => absurd h (by omega), hk⟩
      iexact H
  · obtain rfl := ha (by omega)
    have hgf := known_full m c t.val (by omega) g hg
    subst hgf
    iintro ⟨⟨Hi, Hz, Ha, Hg⟩, Hk⟩
    iapply (runC c (grid0.coords t) (hs0 t) (hs1 t) (hs2 t) (hs3 t) (hs4 t) (hs5 t) (hs6 t) (hs7 t) (hs8 t) (hs9 t) (hs10 t) (hs11 t) (hs12 t) (hs13 t) (hs14 t) (hs15 t) (hs16 t) (Memref.isWhole_whole _) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) z (attn m c) (gfull m c) (fun h => absurd ((hcond0 t).mp h) (by omega)) (fun h => h1 ((hcond1 t).mp h)) ((hcond2 t).mpr (by omega)) Set.univ _)
    isplitl [Hi]; · iexact Hi
    isplitl [Hz]; · iexact Hz
    isplitl [Ha]; · iexact Ha
    isplitl [Hg]; · iexact Hg
    iintro H
    iapply Hk $$ %_ %_ []
    · ipureintro; exact ⟨fun h => absurd h h1, fun _ => rfl, fun _ _ => rfl⟩
    iexact H

/-- A window that is not idle at a point is left at what the proof data says. -/
theorem leaves_live (c : Dev nD) (t : Fin cfg0.N) (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 2000000 in
/-- Each input's buffer is left at its block. -/
theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t)
    ∧ (dats m 0 c).leavesExact 4 t = owns (c : Thread nD τ) (ms4 t) fullShare (iblk m c 4 t)
    ∧ (dats m 0 c).leavesExact 5 t = owns (c : Thread nD τ) (ms5 t) fullShare (iblk m c 5 t)
    ∧ (dats m 0 c).leavesExact 6 t = owns (c : Thread nD τ) (ms6 t) fullShare (iblk m c 6 t)
    ∧ (dats m 0 c).leavesExact 7 t = owns (c : Thread nD τ) (ms7 t) fullShare (iblk m c 7 t)
    ∧ (dats m 0 c).leavesExact 8 t = owns (c : Thread nD τ) (ms8 t) fullShare (iblk m c 8 t)
    ∧ (dats m 0 c).leavesExact 9 t = owns (c : Thread nD τ) (ms9 t) fullShare (iblk m c 9 t)
    ∧ (dats m 0 c).leavesExact 10 t = owns (c : Thread nD τ) (ms10 t) fullShare (iblk m c 10 t)
    ∧ (dats m 0 c).leavesExact 11 t = owns (c : Thread nD τ) (ms11 t) fullShare (iblk m c 11 t)
    ∧ (dats m 0 c).leavesExact 12 t = owns (c : Thread nD τ) (ms12 t) fullShare (iblk m c 12 t)
    ∧ (dats m 0 c).leavesExact 13 t = owns (c : Thread nD τ) (ms13 t) fullShare (iblk m c 13 t)
    ∧ (dats m 0 c).leavesExact 14 t = owns (c : Thread nD τ) (ms14 t) fullShare (iblk m c 14 t)
    ∧ (dats m 0 c).leavesExact 15 t = owns (c : Thread nD τ) (ms15 t) fullShare (iblk m c 15 t) :=
  ⟨leaves_live m c t 0 rfl, leaves_live m c t 1 rfl, leaves_live m c t 2 rfl, leaves_live m c t 3 rfl, leaves_live m c t 4 rfl, leaves_live m c t 5 rfl, leaves_live m c t 6 rfl, leaves_live m c t 7 rfl, leaves_live m c t 8 rfl, leaves_live m c t 9 rfl, leaves_live m c t 10 rfl, leaves_live m c t 11 rfl, leaves_live m c t 12 rfl, leaves_live m c t 13 rfl, leaves_live m c t 14 rfl, leaves_live m c t 15 rfl⟩

/-- The body obligation at a point. -/
theorem sound_body (c : Dev nD) (t : Fin cfg0.N) :
    bodyPre m c t ⊢ wp frame (wpE (defs₀ (F := F)) Variants.none c none) Set.univ (bodyProg t) (fun _ => bodyPost m c t) := by
  obtain ⟨b0, b1, b2, b3, b4, b5, b6, b7, b8, b9, b10, b11, b12, b13, b14, b15⟩ := before_in m c t
  obtain ⟨l0, l1, l2, l3, l4, l5, l6, l7, l8, l9, l10, l11, l12, l13, l14, l15⟩ := leaves_in m c t
  unfold bodyPre bodyPost
  simp only [b0, b1, b2, b3, b4, b5, b6, b7, b8, b9, b10, b11, b12, b13, b14, b15, l0, l1, l2, l3, l4, l5, l6, l7, l8, l9, l10, l11, l12, l13, l14, l15]
  rw [show (dats m 0 c).owesAt () t.succ = (dats m 0 c).owesAt () t.castSucc from rfl,
    show (dats m 0 c).Φ t.succ = Phi m c (t.val + 1) from rfl, show (dats m 0 c).Φ t.castSucc = Phi m c t.val from rfl]
  unfold Phi
  iintro ⟨⟨⟨⟨%a, %ha, Ha⟩, ⟨%g, %hg, Hg⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (body_step m c t ((dats m 0 c).before 16 t d16) a g ha hg _)
  isplitl [H0 H1 H2 H3 H4 H5 H6 H7 H8 H9 H10 H11 H12 H13 H14 H15 H16 Ha Hg]
  · unfold st ins; iframe
  iintro %z' %g' %hp ⟨⟨H0, H1, H2, H3, H4, H5, H6, H7, H8, H9, H10, H11, H12, H13, H14, H15⟩, H16, Ha, Hg⟩
  isplitl [Ha Hg Hp]
  · isplitl [Ha Hg]
    · isplitl [Ha]
      · iexists _; isplitr
        · ipureintro; exact fun _ => rfl
        iexact Ha
      · iexists _; isplitr
        · ipureintro; exact hp.2.2
        iexact Hg
    iexact Hp
  iframe
  by_cases h : t.val < 4
  · rw [(dats m 0 c).leavesExact_idle 16 t (out_idle t h) (out_flush t h), hp.1 h]
    iexists _; iexact H16
  · rw [show (dats m 0 c).leavesExact 16 t = owns (c : Thread nD τ) (ms16 t) fullShare (outBlk m c t) from by
      unfold Dat.leavesExact; rw [out_live t (by omega)]; rfl, hp.2.1 (by omega)]
    iexact H16

/-- The launch's table gives the body at the point's buffers. -/
theorem defs₀_row (t : Fin cfg0.N) :
    defs₀ (F := F) .tc cfg0.body (cfg0.bodyArgs t (cfg0.slots t)) = bodyProg t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, phiA_eq]
  unfold Phi
  iintro ⟨⟨⟨%a, Ha⟩, ⟨%g, Hg⟩⟩, Hp⟩
  isplitl [Ha Hg]
  · isplitl [Ha]
    · iexists a; isplitr
      · ipureintro; exact fun h => absurd rfl h
      iexact Ha
    · iexists g; isplitr
      · ipureintro; exact fun _ h => absurd h (by omega)
      iexact Hg
  iexact Hp

theorem hout (c : Dev nD) : (dats m 0 c).Φ (Fin.last cfg0.N) ⊢ Pipeline.ΦA spec0 c := by
  rw [show (dats m 0 c).Φ (Fin.last cfg0.N) = Phi m c (Fin.last cfg0.N).val from rfl, phiA_eq]
  unfold Phi
  iintro ⟨⟨⟨%a, %ha, Ha⟩, ⟨%g, %hg, Hg⟩⟩, Hp⟩
  isplitl [Ha Hg]
  · isplitl [Ha]
    · iexists a; iexact Ha
    · iexists g; iexact Hg
  iexact Hp

set_option backward.isDefEq.respectTransparency.types false in
/-- The run: every weakly fair execution ends, with each array as the proof data says and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Run

end
-- ==== Proof.Run.Printed.lean ====
/- The kernel as printed is its ideal program with the named constant read as its own word. -/
module

public import proofs.«01_k».proof.Proof.Run.Launch
public import proofs.«01_k».proof.Proof.Gen.Kernel

@[expose] public section

set_option maxRecDepth 16384

noncomputable section

namespace Cert.Kernel.Printed

open Idealize.ShloMosaic Idealize.SL.Sem

variable {F : FTy → Type} [FloatOps F]

/-- Every named constant read as the word that the program prints. -/
abbrev words : Named F := ⟨fun _ _ {φ} b => Scalar.ofBits φ b⟩

attribute [local instance] words Cert.Kernel.Gen.facts Cert.KernelIdeal.Gen.facts

/-- The two bodies of @main are the same. -/
theorem main_eq : Cert.KernelIdeal.main (F := F) = Cert.Kernel.main (F := F) := by sl_kernel_rfl

/-- The two tables of kernels are the same. -/
theorem defs_eq : Cert.KernelIdeal.defs (F := F) = Cert.Kernel.defs (F := F) := by sl_kernel_rfl

/-- What the ideal program's runs end with, the printed kernel's end with. -/
theorem run_of (m : (ℓ : Loc nD τ sig) → Buf (Elt F) ℓ) (ρ : Dev nD → PrngReg) (Q : PUnit × MemSt nD τ sig (Elt F) → Prop)
    (h : θ_run (Cert.KernelIdeal.defs (F := F)) (onTc (τ := Cert.KernelIdeal.τ) (Cert.KernelIdeal.main (F := F))) ⟨m, fun _ => 0, ρ⟩ Q) :
    θ_run (defs (F := F)) (onTc (τ := τ) (main (F := F))) ⟨m, fun _ => 0, ρ⟩ Q := by
  rw [← main_eq, ← defs_eq]
  exact h

end Cert.Kernel.Printed

end
-- ==== Proof.Value.Spec.lean ====
/- The mathematics of the layer over the real numbers: tags attend once, words take the tags whose span holds them,
   two products follow, and the normalised row is projected to nine labels. -/
module

public import Idealize.ShloMosaic.PureOps.Ideal

@[expose] public section

noncomputable section

namespace Cert.Spec

/-! ## Real numbers inside the extended reals -/

/-- A finite sum of real numbers, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The larger of two real numbers, read as an extended real. -/
theorem coe_max (x y : ℝ) : ((max x y : ℝ) : EReal) = max (x : EReal) (y : EReal) :=
  Monotone.map_max (fun _ _ h => EReal.coe_le_coe_iff.mpr h)

/-- A real factor distributes over a real number plus any extended real. -/
theorem coe_add_mul (x : ℝ) (l : EReal) (w : ℝ) : ((x : EReal) + l) * (w : EReal) = ((x * w : ℝ) : EReal) + l * (w : EReal) := by
  rcases lt_trichotomy w 0 with h | h | h
  · induction l using EReal.rec with
    | bot => simp [EReal.bot_mul_coe_of_neg h, ← EReal.coe_mul]
    | coe l => norm_cast; ring
    | top => simp [EReal.top_mul_coe_of_neg h]
  · subst h; simp
  · induction l using EReal.rec with
    | bot => simp [EReal.bot_mul_coe_of_pos h]
    | coe l => norm_cast; ring
    | top => simp [EReal.top_mul_coe_of_pos h, ← EReal.coe_mul]

/-! ## The layer -/

/-- The arguments. All but the shift of the normalisation and the last bias are real numbers. -/
structure Args where
  we : Fin 4 → Fin 512 → Fin 1024 → ℝ
  span : Fin 4 → Fin 8 → Fin 2 → BitVec 32
  tag : Fin 8 → Fin 1024 → ℝ
  ipw : Fin 3072 → Fin 1024 → ℝ
  ipb : Fin 3072 → ℝ
  wo : Fin 1024 → Fin 1024 → ℝ
  bo : Fin 1024 → ℝ
  w1 : Fin 1024 → Fin 8192 → ℝ
  b1 : Fin 1024 → ℝ
  w2 : Fin 512 → Fin 1024 → ℝ
  b2 : Fin 512 → ℝ
  lng : Fin 1536 → ℝ
  lnb : Fin 1536 → EReal
  wout : Fin 9 → Fin 1536 → ℝ
  bout : Fin 9 → EReal

variable (A : Args)

/-- Whether word `s` lies in the span `[lo, hi)`, as a number. -/
def inSpan (s : Fin 512) (lo hi : BitVec 32) : ℝ :=
  if lo.sle (BitVec.ofNat 32 s.val) && (BitVec.ofNat 32 s.val).slt hi then 1 else 0

/-- The value rows of the tags. -/
def vh (t : Fin 8) (k : Fin 1024) : ℝ := (∑ j, A.tag t j * A.ipw ⟨2048 + k.val, by omega⟩ j) + A.ipb ⟨2048 + k.val, by omega⟩

/-- The attention's result for a tag: a tag has one key, so its weight is one. -/
def attn (t : Fin 8) (h : Fin 1024) : ℝ := (∑ k, vh A t k * A.wo h k) + A.bo h

/-- A tag's part of the first product. -/
def g (t : Fin 8) (j : Fin 1024) : ℝ := ∑ h, attn A t h * A.w1 j ⟨t.val * 1024 + h.val, by omega⟩

/-- The hidden layer at a word. -/
def hid (b : Fin 4) (s : Fin 512) (j : Fin 1024) : ℝ :=
  max ((∑ t, inSpan s (A.span b t 0) (A.span b t 1) * g A t j) + A.b1 j) 0

/-- The tag embedding of a word. -/
def emb (b : Fin 4) (s : Fin 512) (f : Fin 512) : ℝ := (∑ j, hid A b s j * A.w2 f j) + A.b2 f

/-- Two rows end to end. -/
def join (x : Fin 1024 → ℝ) (u : Fin 512 → ℝ) (d : Fin 1536) : ℝ :=
  if h : d.val < 1024 then x ⟨d.val, h⟩ else u ⟨d.val - 1024, by omega⟩

/-- A sum over a joined row is the sum of its two parts. -/
theorem sum_split (F : Fin 1536 → ℝ) :
    ∑ d, F d = (∑ j : Fin 1024, F ⟨j.val, by omega⟩) + ∑ f : Fin 512, F ⟨1024 + f.val, by omega⟩ :=
  Fin.sum_univ_add (a := 1024) (b := 512) F

theorem join_left (x : Fin 1024 → ℝ) (u : Fin 512 → ℝ) (j : Fin 1024) : join x u ⟨j.val, by omega⟩ = x j := by
  simp [join]
theorem join_right (x : Fin 1024 → ℝ) (u : Fin 512 → ℝ) (f : Fin 512) : join x u ⟨1024 + f.val, by omega⟩ = u f := by
  simp [join]

/-- The small number added to the variance. -/
def eps : ℝ := 9223372 / 2 ^ 63
theorem eps_pos : 0 < eps := by unfold eps; positivity

/-- The mean of a row. -/
def mean (x : Fin 1536 → ℝ) : ℝ := (∑ d, x d) * (1 / 1536)
/-- The variance of a row. -/
def var (x : Fin 1536 → ℝ) : ℝ := (∑ d, (x d - mean x) * (x d - mean x)) * (1 / 1536)

theorem var_nonneg (x : Fin 1536 → ℝ) : 0 ≤ var x :=
  mul_nonneg (Finset.sum_nonneg fun _ _ => mul_self_nonneg _) (by norm_num)

theorem var_eps_pos (x : Fin 1536 → ℝ) : 0 < var x + eps := by have := var_nonneg x; have := eps_pos; linarith

/-- The variance is the mean square less the squared mean. -/
theorem var_eq (x : Fin 1536 → ℝ) : (∑ d, x d * x d) * (1 / 1536) - mean x * mean x = var x := by
  have e : ∑ d, (x d - mean x) * (x d - mean x) = (∑ d, x d * x d) - 2 * mean x * (∑ d, x d) + 1536 * (mean x * mean x) := by
    have : ∀ d, (x d - mean x) * (x d - mean x) = x d * x d - 2 * mean x * x d + mean x * mean x := fun d => by ring
    simp only [this, Finset.sum_add_distrib, Finset.sum_sub_distrib, ← Finset.mul_sum, Finset.sum_const, Finset.card_univ,
      Fintype.card_fin, nsmul_eq_mul]
    push_cast; ring
  have s : ∑ d, x d = 1536 * mean x := by unfold mean; ring
  unfold var
  rw [e, s]; ring

/-- A row normalised, scaled, shifted, projected and biased. -/
def label (x : Fin 1536 → ℝ) (lng : Fin 1536 → ℝ) (lnb : Fin 1536 → EReal) (w : Fin 1536 → ℝ) (b : EReal) : EReal :=
  (∑ d, ((((x d - mean x) * (1 / Real.sqrt (var x + eps)) * lng d : ℝ) : EReal) + lnb d) * (w d : EReal)) + b

/-- The layer's result. -/
def out (b : Fin 4) (s : Fin 512) (n : Fin 9) : EReal :=
  label (join (A.we b s) (emb A b s)) A.lng A.lnb (A.wout n) (A.bout n)

/-- The same result with the projection taken before the mean is removed and the row divided by its deviation. -/
theorem label_eq (x : Fin 1024 → ℝ) (u : Fin 512 → ℝ) (lng : Fin 1536 → ℝ) (lnb : Fin 1536 → EReal) (w : Fin 1536 → ℝ) (b : EReal) :
    label (join x u) lng lnb w b
      = (((Real.sqrt (var (join x u) + eps))⁻¹
            * ((∑ j : Fin 1024, x j * (w ⟨j.val, by omega⟩ * lng ⟨j.val, by omega⟩))
              + ∑ f : Fin 512, u f * (w ⟨1024 + f.val, by omega⟩ * lng ⟨1024 + f.val, by omega⟩))
          - (Real.sqrt (var (join x u) + eps))⁻¹ * mean (join x u) * ∑ d, w d * lng d : ℝ) : EReal)
        + ((∑ d, lnb d * (w d : EReal)) + b) := by
  have e : (∑ j : Fin 1024, x j * (w ⟨j.val, by omega⟩ * lng ⟨j.val, by omega⟩))
      + ∑ f : Fin 512, u f * (w ⟨1024 + f.val, by omega⟩ * lng ⟨1024 + f.val, by omega⟩)
      = ∑ d, join x u d * (w d * lng d) := by
    rw [sum_split]; simp only [join_left, join_right]
  rw [e]
  unfold label
  simp only [coe_add_mul, Finset.sum_add_distrib, ← coe_sum]
  rw [add_assoc]
  congr 2
  rw [Finset.mul_sum, Finset.mul_sum, ← Finset.sum_sub_distrib]
  refine Finset.sum_congr rfl fun d _ => ?_
  ring

/-- The mean of a joined row from its two parts. -/
theorem mean_join (x : Fin 1024 → ℝ) (u : Fin 512 → ℝ) : mean (join x u) = ((∑ j, x j) + ∑ f, u f) * (1 / 1536) := by
  unfold mean; rw [sum_split]; simp only [join_left, join_right]

/-- The variance of a joined row from its two parts. -/
theorem var_join (x : Fin 1024 → ℝ) (u : Fin 512 → ℝ) :
    ((∑ j, x j * x j) + ∑ f, u f * u f) * (1 / 1536) - mean (join x u) * mean (join x u) = var (join x u) := by
  rw [← var_eq, sum_split]; simp only [join_left, join_right]

end Cert.Spec
-- ==== Proof.Value.Held.lean ====
/- When fifteen arrays hold the arguments of the layer. -/
module

public import proofs.«01_k».proof.Proof.Value.Spec
public import Idealize.ShloMosaic.Lib.Pointwise

@[expose] public section

namespace Cert.Spec

open Idealize.ShloMosaic

/-- The arrays hold the arguments `A`, element by element. -/
structure Held (A : Args) (x0 : FVec Ideal ⟨3, ![4, 512, 1024]⟩ .f32) (x1 : IVec ⟨3, ![4, 8, 2]⟩ 32)
    (x2 : FVec Ideal ⟨2, ![8, 1024]⟩ .f32) (x3 : FVec Ideal ⟨2, ![3072, 1024]⟩ .f32) (x4 : FVec Ideal ⟨1, ![3072]⟩ .f32)
    (x5 : FVec Ideal ⟨2, ![1024, 1024]⟩ .f32) (x6 : FVec Ideal ⟨1, ![1024]⟩ .f32) (x7 : FVec Ideal ⟨2, ![1024, 8192]⟩ .f32)
    (x8 : FVec Ideal ⟨1, ![1024]⟩ .f32) (x9 : FVec Ideal ⟨2, ![512, 1024]⟩ .f32) (x10 : FVec Ideal ⟨1, ![512]⟩ .f32)
    (x11 x12 : FVec Ideal ⟨1, ![1536]⟩ .f32) (x13 : FVec Ideal ⟨2, ![9, 1536]⟩ .f32) (x14 : FVec Ideal ⟨1, ![9]⟩ .f32) : Prop where
  we : ∀ b s j, x0 (ix3 b s j) = (A.we b s j : EReal)
  span : ∀ b t k, x1 (ix3 b t k) = A.span b t k
  tag : ∀ t j, x2 (ix2 t j) = (A.tag t j : EReal)
  ipw : ∀ i j, x3 (ix2 i j) = (A.ipw i j : EReal)
  ipb : ∀ i, x4 (ix1 i) = (A.ipb i : EReal)
  wo : ∀ i j, x5 (ix2 i j) = (A.wo i j : EReal)
  bo : ∀ i, x6 (ix1 i) = (A.bo i : EReal)
  w1 : ∀ i j, x7 (ix2 i j) = (A.w1 i j : EReal)
  b1 : ∀ i, x8 (ix1 i) = (A.b1 i : EReal)
  w2 : ∀ i j, x9 (ix2 i j) = (A.w2 i j : EReal)
  b2 : ∀ i, x10 (ix1 i) = (A.b2 i : EReal)
  lng : ∀ i, x11 (ix1 i) = (A.lng i : EReal)
  lnb : ∀ i, x12 (ix1 i) = A.lnb i
  wout : ∀ i j, x13 (ix2 i j) = (A.wout i j : EReal)
  bout : ∀ i, x14 (ix1 i) = A.bout i

/-- Arrays that hold real numbers, but for the shift and the last bias, hold some arguments. -/
theorem Held.exists_of_finite (x0 : FVec Ideal ⟨3, ![4, 512, 1024]⟩ .f32) (x1 : IVec ⟨3, ![4, 8, 2]⟩ 32)
    (x2 : FVec Ideal ⟨2, ![8, 1024]⟩ .f32) (x3 : FVec Ideal ⟨2, ![3072, 1024]⟩ .f32) (x4 : FVec Ideal ⟨1, ![3072]⟩ .f32)
    (x5 : FVec Ideal ⟨2, ![1024, 1024]⟩ .f32) (x6 : FVec Ideal ⟨1, ![1024]⟩ .f32) (x7 : FVec Ideal ⟨2, ![1024, 8192]⟩ .f32)
    (x8 : FVec Ideal ⟨1, ![1024]⟩ .f32) (x9 : FVec Ideal ⟨2, ![512, 1024]⟩ .f32) (x10 : FVec Ideal ⟨1, ![512]⟩ .f32)
    (x11 x12 : FVec Ideal ⟨1, ![1536]⟩ .f32) (x13 : FVec Ideal ⟨2, ![9, 1536]⟩ .f32) (x14 : FVec Ideal ⟨1, ![9]⟩ .f32)
    (h0 : ∀ i, ∃ r : ℝ, x0 i = (r : EReal)) (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) (h6 : ∀ i, ∃ r : ℝ, x6 i = (r : EReal))
    (h7 : ∀ i, ∃ r : ℝ, x7 i = (r : EReal)) (h8 : ∀ i, ∃ r : ℝ, x8 i = (r : EReal)) (h9 : ∀ i, ∃ r : ℝ, x9 i = (r : EReal))
    (h10 : ∀ i, ∃ r : ℝ, x10 i = (r : EReal)) (h11 : ∀ i, ∃ r : ℝ, x11 i = (r : EReal)) (h13 : ∀ i, ∃ r : ℝ, x13 i = (r : EReal)) :
    ∃ A, Held A x0 x1 x2 x3 x4 x5 x6 x7 x8 x9 x10 x11 x12 x13 x14 := by
  choose r0 h0 using h0
  choose r2 h2 using h2
  choose r3 h3 using h3
  choose r4 h4 using h4
  choose r5 h5 using h5
  choose r6 h6 using h6
  choose r7 h7 using h7
  choose r8 h8 using h8
  choose r9 h9 using h9
  choose r10 h10 using h10
  choose r11 h11 using h11
  choose r13 h13 using h13
  exact ⟨{ we := fun b s j => r0 (ix3 b s j), span := fun b t k => x1 (ix3 b t k), tag := fun t j => r2 (ix2 t j)
           ipw := fun i j => r3 (ix2 i j), ipb := fun i => r4 (ix1 i), wo := fun i j => r5 (ix2 i j), bo := fun i => r6 (ix1 i)
           w1 := fun i j => r7 (ix2 i j), b1 := fun i => r8 (ix1 i), w2 := fun i j => r9 (ix2 i j), b2 := fun i => r10 (ix1 i)
           lng := fun i => r11 (ix1 i), lnb := fun i => x12 (ix1 i), wout := fun i j => r13 (ix2 i j), bout := fun i => x14 (ix1 i) },
    ⟨fun _ _ _ => h0 _, fun _ _ _ => rfl, fun _ _ => h2 _, fun _ _ => h3 _, fun _ => h4 _, fun _ _ => h5 _, fun _ => h6 _,
      fun _ _ => h7 _, fun _ => h8 _, fun _ _ => h9 _, fun _ => h10 _, fun _ => h11 _, fun _ => rfl, fun _ _ => h13 _, fun _ => rfl⟩⟩

end Cert.Spec
-- ==== Proof.Value.Pre.lean ====
/- The precondition opened: the arrays it names hold real numbers. -/
module

public import proofs.«01_k».proof.Defs
public import proofs.«01_k».proof.Proof.Value.Held
public import Idealize.ShloMosaic.Lib.ReduceAll
public import Idealize.ShloMosaic.Lib.Pointwise

@[expose] public section

set_option maxRecDepth 16384

namespace Cert.Pre_finite

open Idealize.ShloMosaic

/-- The shape relations that the precondition's operations ask for. -/
theorem facts : Facts where
  bcast_S_S4x512x1024 := by decide
  reducesTo_S4x512x1024_S_d0_1_2 := by decide
  h_S_ := by decide
  bcast_S_S8x1024 := by decide
  reducesTo_S8x1024_S_d0_1 := by decide
  bcast_S_S3072x1024 := by decide
  reducesTo_S3072x1024_S_d0_1 := by decide
  bcast_S_S3072 := by decide
  reducesTo_S3072_S_d0 := by decide
  bcast_S_S1024x1024 := by decide
  reducesTo_S1024x1024_S_d0_1 := by decide
  bcast_S_S1024 := by decide
  reducesTo_S1024_S_d0 := by decide
  bcast_S_S1024x8192 := by decide
  reducesTo_S1024x8192_S_d0_1 := by decide
  bcast_S_S512x1024 := by decide
  reducesTo_S512x1024_S_d0_1 := by decide
  bcast_S_S512 := by decide
  reducesTo_S512_S_d0 := by decide
  bcast_S_S1536 := by decide
  reducesTo_S1536_S_d0 := by decide
  bcast_S_S9x1536 := by decide
  reducesTo_S9x1536_S_d0_1 := by decide

instance : Subsingleton S_.Idx := ⟨fun a b => funext fun i => i.elim0⟩

/-- A number whose absolute value is below infinity is real. -/
theorem real_of_lt (x : EReal) (h : max x (-x) < ⊤) : ∃ r : ℝ, x = (r : EReal) := by
  induction x using EReal.rec with
  | bot => simp at h
  | coe r => exact ⟨r, rfl⟩
  | top => simp at h

/-- The conjunction of two words of one bit is one only if both are. -/
theorem andi_one (p q : BitVec 1) (h : IntOp.andi p q = 1#1) : p = 1#1 ∧ q = 1#1 := by
  revert p q; decide

/-- The bit pattern of the positive infinity. -/
theorem top_eq : Ideal.ofBits .f32 0x7F800000#32 = ⊤ := by simp [Ideal.ofBits, Ideal.ieee]

/-- An array all of whose elements compare below infinity in absolute value holds real numbers. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) (i : s.Idx) : ∃ r : ℝ, x i = (r : EReal) := by
  have h1 := Host.reduce_andi_all _ _ h hu j e i
  refine real_of_lt _ ?_
  have h2 : BitVec.ofBool (decide (max (x i) (-(x i)) < Ideal.ofBits .f32 0x7F800000#32)) = 1#1 := h1
  rw [top_eq] at h2
  by_contra hn
  rw [decide_eq_false hn] at h2
  exact absurd h2 (by decide)

end Cert.Pre_finite

namespace Cert.Spec

open Idealize.ShloMosaic Cert.Pre_finite

/-- Under the precondition the arguments hold a collection of real arrays. -/
theorem Held.exists_of_pre (x0 : FVec Ideal S4x512x1024 .f32) (x1 : IVec S4x8x2 32) (x2 : FVec Ideal S8x1024 .f32)
    (x3 : FVec Ideal S3072x1024 .f32) (x4 : FVec Ideal S3072 .f32) (x5 : FVec Ideal S1024x1024 .f32) (x6 : FVec Ideal S1024 .f32)
    (x7 : FVec Ideal S1024x8192 .f32) (x8 : FVec Ideal S1024 .f32) (x9 : FVec Ideal S512x1024 .f32) (x10 : FVec Ideal S512 .f32)
    (x11 x12 : FVec Ideal S1536 .f32) (x13 : FVec Ideal S9x1536 .f32) (x14 : FVec Ideal S9 .f32)
    (h : letI := Cert.Pre_finite.facts; fn (F := Ideal) x0 x1 x2 x3 x4 x5 x6 x7 x8 x9 x10 x11 x12 x13 x14 = fun _ => 1#1) :
    ∃ A, Held A x0 x1 x2 x3 x4 x5 x6 x7 x8 x9 x10 x11 x12 x13 x14 := by
  letI := Cert.Pre_finite.facts
  have e := congrFun h (Shape.Idx.first Cert.Pre_finite.facts.h_S_)
  dsimp only [fn, fn_part1, fn_part2, fn_part3, andi] at e
  obtain ⟨e13, e⟩ := andi_one _ _ e
  obtain ⟨e11, e⟩ := andi_one _ _ e
  obtain ⟨e10, e⟩ := andi_one _ _ e
  obtain ⟨e9, e⟩ := andi_one _ _ e
  obtain ⟨e8, e⟩ := andi_one _ _ e
  obtain ⟨e7, e⟩ := andi_one _ _ e
  obtain ⟨e6, e⟩ := andi_one _ _ e
  obtain ⟨e5, e⟩ := andi_one _ _ e
  obtain ⟨e4, e⟩ := andi_one _ _ e
  obtain ⟨e3, e⟩ := andi_one _ _ e
  obtain ⟨e2, e⟩ := andi_one _ _ e
  obtain ⟨e0, _⟩ := andi_one _ _ e
  exact Held.exists_of_finite x0 x1 x2 x3 x4 x5 x6 x7 x8 x9 x10 x11 x12 x13 x14
    (real_of_all x0 _ _ _ _ e0) (real_of_all x2 _ _ _ _ e2) (real_of_all x3 _ _ _ _ e3) (real_of_all x4 _ _ _ _ e4)
    (real_of_all x5 _ _ _ _ e5) (real_of_all x6 _ _ _ _ e6) (real_of_all x7 _ _ _ _ e7) (real_of_all x8 _ _ _ _ e8)
    (real_of_all x9 _ _ _ _ e9) (real_of_all x10 _ _ _ _ e10) (real_of_all x11 _ _ _ _ e11) (real_of_all x13 _ _ _ _ e13)

end Cert.Spec
-- ==== Proof.Value.Scores.lean ====
/- The attention scores of the reference are real numbers — rotary angles, rotated words, queries, keys and their
   products —, and each is the only one of its row: its weight is one. -/
module

public import proofs.«01_k».proof.Proof.Gen.ReferenceIdeal.Read
public import proofs.«01_k».proof.Proof.Value.Spec
public import Idealize.ShloMosaic.Lib.Pointwise

@[expose] public section

set_option maxRecDepth 16384

namespace Cert.Spec

/-- An extended real that is a real number. -/
def IsReal (x : EReal) : Prop := ∃ r : ℝ, x = (r : EReal)

namespace IsReal

theorem coe (r : ℝ) : IsReal (r : EReal) := ⟨r, rfl⟩

theorem add {x y : EReal} : IsReal x → IsReal y → IsReal (x + y)
  | ⟨a, ha⟩, ⟨b, hb⟩ => ⟨a + b, by rw [ha, hb, EReal.coe_add]⟩

theorem sub {x y : EReal} : IsReal x → IsReal y → IsReal (x - y)
  | ⟨a, ha⟩, ⟨b, hb⟩ => ⟨a - b, by rw [ha, hb, EReal.coe_sub]⟩

theorem mul {x y : EReal} : IsReal x → IsReal y → IsReal (x * y)
  | ⟨a, ha⟩, ⟨b, hb⟩ => ⟨a * b, by rw [ha, hb, EReal.coe_mul]⟩

theorem max {x y : EReal} : IsReal x → IsReal y → IsReal (Max.max x y)
  | ⟨a, ha⟩, ⟨b, hb⟩ => ⟨Max.max a b, by rw [ha, hb, coe_max]⟩

theorem sum {ι : Type} [Fintype ι] {f : ι → EReal} (h : ∀ i, IsReal (f i)) : IsReal (∑ i, f i) := by
  choose g hg using h
  exact ⟨∑ i, g i, by rw [coe_sum]; exact Finset.sum_congr rfl fun i _ => hg i⟩

open Idealize.ShloMosaic in
/-- A quotient of real numbers by a number other than zero. -/
theorem div {x : EReal} (hx : IsReal x) {y : ℝ} (hy : y ≠ 0) : IsReal (Ideal.div x (y : EReal)) := by
  rw [Ideal.div_coe hy]
  exact hx.mul ⟨_, rfl⟩

end IsReal

end Cert.Spec

namespace Cert.ReferenceIdeal.Scores

open Cert.ReferenceIdeal Cert.ReferenceIdeal.Gen Cert.ReferenceIdeal.Read Cert.Spec Idealize.ShloMosaic

/-! ### The constants -/

theorem two_eq : Ideal.ofBits .f32 0x40000000#32 = ((2 : ℝ) : EReal) := by
  simp [Ideal.ofBits, Ideal.ieee, -EReal.coe_mul]; norm_num

theorem thousand_eq : Ideal.ofBits .f32 0x44800000#32 = ((1024 : ℝ) : EReal) := by
  simp [Ideal.ofBits, Ideal.ieee, -EReal.coe_mul]; norm_num

theorem base_eq : Ideal.ofBits .f32 0x461C4000#32 = ((10000 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem sixtyfour_eq : Ideal.ofBits .f32 0x42800000#32 = ((64 : ℝ) : EReal) := by
  simp [Ideal.ofBits, Ideal.ieee, -EReal.coe_mul]; norm_num

/-! ### The rotary angles -/

theorem v7_real (i : S512.Idx) : IsReal (val_main_v7 (F := Ideal) i) := by
  rw [val_main_v7_apply, val_main_v6_apply, val_main_cst_1_apply]
  show IsReal (Ideal.div _ (Ideal.ofBits .f32 0x44800000#32))
  rw [thousand_eq]
  refine IsReal.div ?_ (by norm_num)
  rw [val_main_v5_apply, val_main_v4_apply, val_main_v3_apply, val_main_v2_apply, val_main_cst_0_apply, val_main_cst_apply]
  refine IsReal.add (y := _ * _) ⟨0, Ideal.ofBits_zero_f32⟩ (IsReal.mul ⟨2, two_eq⟩ ⟨_, rfl⟩)

theorem v11_real (i : S512.Idx) : IsReal (val_main_v11 (F := Ideal) i) := by
  obtain ⟨r, hr⟩ := v7_real i
  rw [val_main_v11_apply, val_main_v10_apply, val_main_cst_3_apply, val_main_v9_apply, hr, val_main_v8_apply, val_main_cst_2_apply]
  show IsReal (Ideal.div (Ideal.ofBits .f32 0x3F800000#32) (Ideal.pow (Ideal.ofBits .f32 0x461C4000#32) (r : EReal)))
  rw [base_eq, one_eq, Ideal.pow_coe_coe]
  exact IsReal.div ⟨_, rfl⟩ (Real.rpow_pos_of_pos (by norm_num) _).ne'

theorem v16_real (i : S512x512.Idx) : IsReal (val_main_v16 (F := Ideal) i) := by
  rw [val_main_v16_apply, val_main_v15_apply, val_main_v13_apply, val_main_v14_apply, val_main_v12_apply]
  exact IsReal.mul ⟨_, rfl⟩ (v11_real _)

theorem v17_real (i : S512x512.Idx) : IsReal (val_main_v17 (F := Ideal) i) := by
  obtain ⟨r, hr⟩ := v16_real i
  rw [val_main_v17_apply, hr]
  exact ⟨_, Ideal.sin_coe r⟩

theorem v18_real (i : S512x512.Idx) : IsReal (val_main_v18 (F := Ideal) i) := by
  obtain ⟨r, hr⟩ := v16_real i
  rw [val_main_v18_apply, hr]
  exact ⟨_, Ideal.cos_coe r⟩

/-! ### The rotated words, queries, keys and scores -/

section
variable {x0 : FVec Ideal S4x512x1024 .f32} {x2 : FVec Ideal S8x1024 .f32} {x3 : FVec Ideal S3072x1024 .f32} {x4 : FVec Ideal S3072 .f32}

theorem v27_real (h0 : ∀ i, IsReal (x0 i)) (i : S4x512x512.Idx) : IsReal (val_main_v27 (F := Ideal) x0 i) := by
  rw [val_main_v27_apply, val_main_v26_apply, val_main_v23_apply, val_main_v25_apply, val_main_v24_apply, val_main_v22_apply,
    val_main_v21_apply]
  exact IsReal.sub (IsReal.mul (h0 _) (v18_real _)) (IsReal.mul (h0 _) (v17_real _))

theorem v34_real (h0 : ∀ i, IsReal (x0 i)) (i : S4x512x512.Idx) : IsReal (val_main_v34 (F := Ideal) x0 i) := by
  rw [val_main_v34_apply, val_main_v33_apply, val_main_v30_apply, val_main_v32_apply, val_main_v31_apply, val_main_v29_apply,
    val_main_v28_apply]
  exact IsReal.add (IsReal.mul (h0 _) (v18_real _)) (IsReal.mul (h0 _) (v17_real _))

theorem v38_real (h0 : ∀ i, IsReal (x0 i)) (i : S4x512x1024.Idx) : IsReal (val_main_v38 (F := Ideal) x0 i) := by
  rw [val_main_v38_apply]
  generalize idx_main_v38 i = j
  rw [val_main_v37, concatenate_pair_apply]
  split
  · rw [val_main_v35_apply]; exact v27_real h0 _
  · rw [val_main_v36_apply]; exact v34_real h0 _

theorem v50_real (h0 : ∀ i, IsReal (x0 i)) (h3 : ∀ i, IsReal (x3 i)) (h4 : ∀ i, IsReal (x4 i)) (i : S4x512x16x64.Idx) :
    IsReal (val_main_v50 (F := Ideal) x0 x3 x4 i) := by
  rw [val_main_v50_apply, val_main_v49_apply, val_main_v46_apply, val_main_v48_apply, val_main_v47_apply, val_main_v42_apply]
  refine IsReal.add (IsReal.sum fun k => ?_) (h4 _)
  rw [val_main_v45_apply, val_main_v39_apply]
  exact IsReal.mul (v38_real h0 _) (h3 _)

theorem v56_real (h2 : ∀ i, IsReal (x2 i)) (h3 : ∀ i, IsReal (x3 i)) (h4 : ∀ i, IsReal (x4 i)) (i : S8x16x64.Idx) :
    IsReal (val_main_v56 (F := Ideal) x2 x3 x4 i) := by
  rw [val_main_v56_apply, val_main_v55_apply, val_main_v52_apply, val_main_v54_apply, val_main_v53_apply, val_main_v43_apply]
  refine IsReal.add (IsReal.sum fun k => ?_) (h4 _)
  rw [val_main_v51_apply, val_main_v40_apply]
  exact IsReal.mul (h2 _) (h3 _)

theorem v69_real (h0 : ∀ i, IsReal (x0 i)) (h2 : ∀ i, IsReal (x2 i)) (h3 : ∀ i, IsReal (x3 i)) (h4 : ∀ i, IsReal (x4 i))
    (i : S4x512x8x16x1.Idx) : IsReal (val_main_v69 (F := Ideal) x0 x2 x3 x4 i) := by
  rw [val_main_v69_apply, val_main_v68_apply, val_main_v67_apply, val_main_v66_apply, val_main_v65_apply, val_main_cst_4_apply]
  show IsReal (Ideal.div _ (Ideal.sqrt (Ideal.ofBits .f32 0x42800000#32)))
  rw [sixtyfour_eq, Ideal.sqrt_coe, if_neg (by norm_num)]
  refine IsReal.div ?_ (Real.sqrt_pos.2 (by norm_num)).ne'
  rw [val_main_v64_apply, val_main_v63_apply]
  exact IsReal.sum fun k => IsReal.mul (v56_real h2 h3 h4 _) (v50_real h0 h3 h4 _)

/-! ### The weights -/

theorem v72_real (h0 : ∀ i, IsReal (x0 i)) (h2 : ∀ i, IsReal (x2 i)) (h3 : ∀ i, IsReal (x3 i)) (h4 : ∀ i, IsReal (x4 i))
    (i : S4x512x8x16.Idx) : IsReal (val_main_v72 (F := Ideal) x0 x2 x3 x4 i) := by
  have h := v69_real h0 h2 h3 h4
  unfold val_main_v72 val_main_v71 val_main_cst_6 val_main_v70 val_main_cst_5
  generalize val_main_v69 (F := Ideal) x0 x2 x3 x4 = y at h ⊢
  pointwise
  rw [Finset.univ_unique, Finset.fold_singleton]
  have e : Ideal.ofBits .f32 4286578688#32 = ⊥ := by simp [Ideal.ofBits, Ideal.ieee]
  simp only [e, max_bot_right, bot_sup_eq, max_bot_left]
  exact h _

theorem v75_pos (h0 : ∀ i, IsReal (x0 i)) (h2 : ∀ i, IsReal (x2 i)) (h3 : ∀ i, IsReal (x3 i)) (h4 : ∀ i, IsReal (x4 i))
    (i : S4x512x8x16x1.Idx) : ∃ r : ℝ, 0 < r ∧ val_main_v75 (F := Ideal) x0 x2 x3 x4 i = (r : EReal) := by
  obtain ⟨a, ha⟩ := v69_real h0 h2 h3 h4 i
  obtain ⟨b, hb⟩ := v72_real h0 h2 h3 h4 (idx_main_v73 i)
  refine ⟨Real.exp (a - b), Real.exp_pos _, ?_⟩
  rw [val_main_v75_apply, val_main_v74_apply, val_main_v73_apply, ha, hb]
  show Ideal.exp ((a : EReal) - (b : EReal)) = _
  rw [← EReal.coe_sub, Ideal.exp_coe]

theorem v79_one (h0 : ∀ i, IsReal (x0 i)) (h2 : ∀ i, IsReal (x2 i)) (h3 : ∀ i, IsReal (x3 i)) (h4 : ∀ i, IsReal (x4 i))
    (i : S4x512x8x16.Idx) : val_main_v79 (F := Ideal) x0 x2 x3 x4 i = 1 := by
  have h := v75_pos h0 h2 h3 h4
  unfold val_main_v79 val_main_v78 val_main_v77 val_main_v76 val_main_cst_7
  generalize val_main_v75 (F := Ideal) x0 x2 x3 x4 = y at h ⊢
  pointwise
  obtain ⟨r, hr, e⟩ := h (ix5 (i 0) (i 1) (i 2) (i 3) 0)
  rw [Fin.sum_univ_one, e, Ideal.div_coe hr.ne', ← EReal.coe_mul, mul_one_div_cancel hr.ne', EReal.coe_one]

end

end Cert.ReferenceIdeal.Scores
-- ==== Proof.Value.Payload.lean ====
/- What each block expression of the kernel holds at an index, over the extended reals. -/
module

public import proofs.«01_k».proof.Proof.Run.Ctx
public import proofs.«01_k».proof.Proof.Value.Spec
public import Idealize.ShloMosaic.Lib.Pointwise

@[expose] public section

namespace Cert.KernelIdeal.Value

open Idealize.ShloMosaic Cert.KernelIdeal Cert.KernelIdeal.Gen
open Cert.Spec (inSpan)

/-- The tag rows projected twice: first through the value weights, then through the output weights. -/
theorem pay1_apply (tag : Vec Ideal S8x1024 .f32) (wv : Vec Ideal S1024x1024 .f32) (bv : Vec Ideal S1x1024 .f32)
    (wo : Vec Ideal S1024x1024 .f32) (bo : Vec Ideal S1x1024 .f32) (t : Fin 8) (h : Fin 1024) :
    k0_pay1 tag wv bv wo bo (ix2 t h)
      = (∑ k : Fin 1024, ((∑ j : Fin 1024, tag (ix2 t j) * wv (ix2 k j)) + bv (ix2 0 k)) * wo (ix2 h k)) + bo (ix2 0 h) := by
  pointwise [k0_pay1]

/-- One row of the first product, for the even rows. -/
theorem pay2_apply (a : Vec Ideal S1x1024 .f32) (w : Vec Ideal S1024x1024 .f32) (j : Fin 1024) :
    k0_pay2 a w (ix2 0 j) = ∑ h : Fin 1024, a (ix2 0 h) * w (ix2 j h) := by
  pointwise [k0_pay2]

/-- One row of the first product, for the odd rows. -/
theorem pay3_apply (a : Vec Ideal S1x1024 .f32) (w : Vec Ideal S1024x1024 .f32) (j : Fin 1024) :
    k0_pay3 a w (ix2 0 j) = ∑ h : Fin 1024, a (ix2 0 h) * w (ix2 j h) := by
  pointwise [k0_pay3]

/-- The words of one batch, as rows. -/
theorem pay5_apply (x : Vec Ideal S1x512x1024 .f32) (s : Fin 512) (j : Fin 1024) :
    k0_pay5 x (ix2 s j) = x (ix3 0 s j) := by
  pointwise [k0_pay5]

/-- The kernel's mask is that number. -/
theorem mask_eq (s : Fin 512) (lo hi : BitVec 32) :
    FloatOps.sitofp (F := Ideal) FTy.f32 (BitVec.setWidth 32
      (IntOp.andi (IntOp.cmpi CmpIPredicate.sge (BitVec.ofNat 32 s.val) lo)
        (IntOp.cmpi CmpIPredicate.slt (BitVec.ofNat 32 s.val) hi))) = (inSpan s lo hi : EReal) := by
  unfold inSpan IntOp.andi IntOp.cmpi
  cases lo.sle (BitVec.ofNat 32 s.val) <;> cases (BitVec.ofNat 32 s.val).slt hi <;>
    simp [FloatOps.sitofp]

/-- The masked rows, the hidden layer and the second product at one word. -/
theorem pay6_apply (lo hi : Vec Ideal S1x1x8 .i32) (g : Vec Ideal S8x1024 .f32) (b1 : Vec Ideal S1x1024 .f32)
    (w2 : Vec Ideal S512x1024 .f32) (b2 : Vec Ideal S1x512 .f32) (s : Fin 512) (f : Fin 512) :
    k0_pay6 lo hi g b1 w2 b2 (ix2 s f)
      = (∑ j : Fin 1024, max ((∑ t : Fin 8, (inSpan s (lo (ix3 0 0 t)) (hi (ix3 0 0 t)) : EReal) * g (ix2 t j)) + b1 (ix2 0 j)) 0
          * w2 (ix2 f j)) + b2 (ix2 0 f) := by
  pointwise [k0_pay6]
  simp only [mask_eq]

/-- The sum of a word's two parts. -/
theorem pay7_apply (x : Vec Ideal S1x512x1024 .f32) (lo hi : Vec Ideal S1x1x8 .i32) (g : Vec Ideal S8x1024 .f32) (b1 : Vec Ideal S1x1024 .f32)
    (w2 : Vec Ideal S512x1024 .f32) (b2 : Vec Ideal S1x512 .f32) (s : Fin 512)  :
    k0_pay7 x lo hi g b1 w2 b2 (ix2 s 0)
      = (∑ j : Fin 1024, k0_pay5 x (ix2 s j)) + ∑ f : Fin 512, k0_pay6 lo hi g b1 w2 b2 (ix2 s f) := by
  pointwise [k0_pay7]

/-- The reciprocal deviation of a word. -/
theorem pay9_apply (x : FVec Ideal S512x1024 .f32) (u : FVec Ideal S512x512 .f32) (sum : FVec Ideal S512x1 .f32)
    (κ₁ : Ideal .f32) (s : Fin 512) :
    k0_pay9 x u sum κ₁ (ix2 s 0)
      = Ideal.rsqrt (((∑ j : Fin 1024, x (ix2 s j) * x (ix2 s j)) + ∑ f : Fin 512, u (ix2 s f) * u (ix2 s f))
            * Named.named (F := Ideal) κ "inv_d" 0x3A2AAAAB#32
          - sum (ix2 s 0) * κ₁ * (sum (ix2 s 0) * κ₁) + Ideal.ofBits .f32 0x2B8CBCCC#32) := by
  pointwise [k0_pay9, k0_pay8]

/-- The shift and the bias carried through the last product. -/
theorem pay11_apply (lnb : Vec Ideal S1x1536 .f32) (w : Vec Ideal S9x1536 .f32) (b : Vec Ideal S1x9 .f32) (n : Fin 9) :
    k0_pay11 lnb w b (ix2 0 n) = (∑ d : Fin 1536, lnb (ix2 0 d) * w (ix2 n d)) + b (ix2 0 n) := by
  pointwise [k0_pay11]

/-- The scaled product of a word's two parts with the scaled weights. -/
theorem pay12_apply (x : FVec Ideal S512x1024 .f32) (u : FVec Ideal S512x512 .f32) (sum : FVec Ideal S512x1 .f32)
    (κ₁ : Ideal .f32) (w : Vec Ideal S9x1536 .f32) (lng : Vec Ideal S1x1536 .f32) (s : Fin 512) (n : Fin 9) :
    k0_pay12 x u sum κ₁ w lng (ix2 s n)
      = k0_pay9 x u sum κ₁ (ix2 s 0)
        * ((∑ j : Fin 1024, x (ix2 s j) * (w (ix2 n ⟨j.val, by omega⟩) * lng (ix2 0 ⟨j.val, by omega⟩)))
          + ∑ f : Fin 512, u (ix2 s f) * (w (ix2 n ⟨1024 + f.val, by omega⟩) * lng (ix2 0 ⟨1024 + f.val, by omega⟩))) := by
  pointwise [k0_pay12, k0_pay10]

/-- The reciprocal deviation times the mean. -/
theorem pay13_apply (x : FVec Ideal S512x1024 .f32) (u : FVec Ideal S512x512 .f32) (sum : FVec Ideal S512x1 .f32)
    (κ₁ : Ideal .f32) (s : Fin 512) (n : Fin 9) :
    k0_pay13 x u sum κ₁ (ix2 s n) = k0_pay9 x u sum κ₁ (ix2 s 0) * (sum (ix2 s 0) * κ₁) := by
  pointwise [k0_pay13, k0_pay8]

/-- The row sums of the scaled weights. -/
theorem pay14_apply (w : Vec Ideal S9x1536 .f32) (lng : Vec Ideal S1x1536 .f32) (s : Fin 512) (n : Fin 9) :
    k0_pay14 w lng (ix2 s n) = ∑ d : Fin 1536, w (ix2 n d) * lng (ix2 0 d) := by
  pointwise [k0_pay14, k0_pay10]

/-- The block written back. -/
theorem pay4_apply (c : FVec Ideal S1x9 .f32) (p q r : FVec Ideal S512x9 .f32) (s : Fin 512) (n : Fin 9) :
    k0_pay4 c p q r (ix3 0 s n) = p (ix2 s n) - q (ix2 s n) * r (ix2 s n) + c (ix2 0 n) := by
  pointwise [k0_pay4]

end Cert.KernelIdeal.Value
-- ==== Proof.Value.Blocks.lean ====
/- What each staged block of the kernel holds, in terms of the arguments the kernel was launched with. -/
module

public import proofs.«01_k».proof.Proof.Gen.KernelIdeal.Frame
public import Idealize.ShloMosaic.Lib.Pointwise
public import Idealize.ShloMosaic.Lib.Pipeline.ValueKit

@[expose] public section

set_option maxRecDepth 16384

namespace Cert.KernelIdeal.Value

open Idealize.ShloMosaic Idealize.ShloMosaic.TcCoe Cert.KernelIdeal Cert.KernelIdeal.Gen

variable (m : (ℓ : Loc nD τ sig) → Buf (Elt Ideal) ℓ) (c : Dev nD)

/-- The block index of the windows that do not move. -/
theorem index_fixed : ∀ t : Fin cfg0.N, win0_0.index t = ![0, 0] ∧ win0_1.index t = ![2, 0] ∧ win0_2.index t = ![0, 0]
    ∧ win0_3.index t = ![0, 0] ∧ win0_4.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] := by decide +kernel

/-- The block index of the windows that move with the grid point. -/
theorem index_moving : ∀ t : Fin cfg0.N, win0_5.index t = ![0, min t.val 3] ∧ win0_6.index t = ![t.val - 4, 0, 0]
    ∧ win0_7.index t = ![t.val - 4, 0, 0] ∧ win0_8.index t = ![t.val - 4, 0, 0] ∧ win0_16.index t = ![t.val - 4, 0, 0] := by
  decide +kernel

theorem iblk0_apply (t : Fin cfg0.N) (i : Fin 8) (j : Fin 1024) :
    iblk m c 0 t (ix2 i j) = m ((c : Thread nD τ).loc main_arg2) (ix2 i j) := by
  blk_ext [iblk, V, index_fixed t]

theorem iblk1_apply (t : Fin cfg0.N) (i : Fin 1024) (j : Fin 1024) :
    iblk m c 1 t (ix2 i j) = m ((c : Thread nD τ).loc main_arg3) (ix2 ⟨2048 + i.val, by omega⟩ j) := by
  blk_ext [iblk, V, index_fixed t]

/-- The value rows of the bias, as one row. -/
theorem V_bv (j : Fin 1024) :
    V m c main_call0_v1 (ix2 0 j) = m ((c : Thread nD τ).loc main_arg4) (ix1 ⟨2048 + j.val, by omega⟩) := by
  entry_read
  show shapeCast S1x1024 (extractStridedSlice S1024 ![2048] (m (c, Proc.tc.devRef main_arg4)) slices_S3072_S1024_2048)
    shapeCasts_S1024_S1x1024 (ix2 0 j) = _
  pointwise

/-- The first words of the spans. -/
theorem V_starts (b : Fin 4) (t : Fin 8) :
    V m c main_call0_v5 (ix3 b 0 t) = m ((c : Thread nD τ).loc main_arg1) (ix3 b t 0) := by
  entry_read
  show shapeCast S4x1x8 (shapeCast S4x8 (extractStridedSlice S4x8x1 ![0, 0, 0] (m (c, Proc.tc.devRef main_arg1))
    slices_S4x8x2_S4x8x1_0_0_0) shapeCasts_S4x8x1_S4x8) shapeCasts_S4x8_S4x1x8 (ix3 b 0 t) = _
  pointwise

/-- The words the spans end before. -/
theorem V_ends (b : Fin 4) (t : Fin 8) :
    V m c main_call0_v8 (ix3 b 0 t) = m ((c : Thread nD τ).loc main_arg1) (ix3 b t 1) := by
  entry_read
  show shapeCast S4x1x8 (shapeCast S4x8 (extractStridedSlice S4x8x1 ![0, 0, 1] (m (c, Proc.tc.devRef main_arg1))
    slices_S4x8x2_S4x8x1_0_0_1) shapeCasts_S4x8x1_S4x8) shapeCasts_S4x8_S4x1x8 (ix3 b 0 t) = _
  pointwise

/-! The remaining operands are vectors handed over as one row. -/

theorem V_bo (j : Fin 1024) : V m c main_call0_v2 (ix2 0 j) = m ((c : Thread nD τ).loc main_arg6) (ix1 j) := by
  entry_read; pointwise
theorem V_b1 (j : Fin 1024) : V m c main_call0_v9 (ix2 0 j) = m ((c : Thread nD τ).loc main_arg8) (ix1 j) := by
  entry_read; pointwise
theorem V_b2 (j : Fin 512) : V m c main_call0_v10 (ix2 0 j) = m ((c : Thread nD τ).loc main_arg10) (ix1 j) := by
  entry_read; pointwise
theorem V_lng (j : Fin 1536) : V m c main_call0_v11 (ix2 0 j) = m ((c : Thread nD τ).loc main_arg11) (ix1 j) := by
  entry_read; pointwise
theorem V_lnb (j : Fin 1536) : V m c main_call0_v12 (ix2 0 j) = m ((c : Thread nD τ).loc main_arg12) (ix1 j) := by
  entry_read; pointwise
theorem V_bout (j : Fin 9) : V m c main_call0_v13 (ix2 0 j) = m ((c : Thread nD τ).loc main_arg14) (ix1 j) := by
  entry_read; pointwise

/-! ## The staged blocks -/

theorem iblk2_apply (t : Fin cfg0.N) (j : Fin 1024) :
    iblk m c 2 t (ix2 0 j) = m ((c : Thread nD τ).loc main_arg4) (ix1 ⟨2048 + j.val, by omega⟩) := by
  refine .trans ?_ (V_bv m c j); blk_ext [iblk, index_fixed t]

theorem iblk3_apply (t : Fin cfg0.N) (i : Fin 1024) (j : Fin 1024) :
    iblk m c 3 t (ix2 i j) = m ((c : Thread nD τ).loc main_arg5) (ix2 i j) := by
  blk_ext [iblk, V, index_fixed t]

theorem iblk4_apply (t : Fin cfg0.N) (j : Fin 1024) :
    iblk m c 4 t (ix2 0 j) = m ((c : Thread nD τ).loc main_arg6) (ix1 j) := by
  refine .trans ?_ (V_bo m c j); blk_ext [iblk, index_fixed t]

/-- The columns of the first weights at point `t`: block `min t 3` of 2048 columns. -/
theorem iblk5_apply (t : Fin cfg0.N) (i : Fin 1024) (j : Fin 2048) :
    iblk m c 5 t (ix2 i j) = m ((c : Thread nD τ).loc main_arg7) (ix2 i ⟨min t.val 3 * 2048 + j.val, by omega⟩) := by
  blk_ext [iblk, V, index_moving t]

/-- The words of batch `b`, at the point that computes it. -/
theorem iblk6_apply (t : Fin cfg0.N) (b : Fin 4) (hb : b.val = t.val - 4) (s : Fin 512) (j : Fin 1024) :
    iblk m c 6 t (ix3 0 s j) = m ((c : Thread nD τ).loc main_arg0) (ix3 b s j) := by
  blk_ext [iblk, V, index_moving t]

theorem iblk7_apply (t : Fin cfg0.N) (b : Fin 4) (hb : b.val = t.val - 4) (j : Fin 8) :
    iblk m c 7 t (ix3 0 0 j) = m ((c : Thread nD τ).loc main_arg1) (ix3 b j 0) := by
  refine .trans ?_ (V_starts m c b j); blk_ext [iblk, index_moving t]

theorem iblk8_apply (t : Fin cfg0.N) (b : Fin 4) (hb : b.val = t.val - 4) (j : Fin 8) :
    iblk m c 8 t (ix3 0 0 j) = m ((c : Thread nD τ).loc main_arg1) (ix3 b j 1) := by
  refine .trans ?_ (V_ends m c b j); blk_ext [iblk, index_moving t]

theorem iblk9_apply (t : Fin cfg0.N) (j : Fin 1024) :
    iblk m c 9 t (ix2 0 j) = m ((c : Thread nD τ).loc main_arg8) (ix1 j) := by
  refine .trans ?_ (V_b1 m c j); blk_ext [iblk, index_fixed t]

theorem iblk10_apply (t : Fin cfg0.N) (i : Fin 512) (j : Fin 1024) :
    iblk m c 10 t (ix2 i j) = m ((c : Thread nD τ).loc main_arg9) (ix2 i j) := by
  blk_ext [iblk, V, index_fixed t]

theorem iblk11_apply (t : Fin cfg0.N) (j : Fin 512) :
    iblk m c 11 t (ix2 0 j) = m ((c : Thread nD τ).loc main_arg10) (ix1 j) := by
  refine .trans ?_ (V_b2 m c j); blk_ext [iblk, index_fixed t]

theorem iblk12_apply (t : Fin cfg0.N) (j : Fin 1536) :
    iblk m c 12 t (ix2 0 j) = m ((c : Thread nD τ).loc main_arg11) (ix1 j) := by
  refine .trans ?_ (V_lng m c j); blk_ext [iblk, index_fixed t]

theorem iblk13_apply (t : Fin cfg0.N) (j : Fin 1536) :
    iblk m c 13 t (ix2 0 j) = m ((c : Thread nD τ).loc main_arg12) (ix1 j) := by
  refine .trans ?_ (V_lnb m c j); blk_ext [iblk, index_fixed t]

theorem iblk14_apply (t : Fin cfg0.N) (i : Fin 9) (j : Fin 1536) :
    iblk m c 14 t (ix2 i j) = m ((c : Thread nD τ).loc main_arg13) (ix2 i j) := by
  blk_ext [iblk, V, index_fixed t]

theorem iblk15_apply (t : Fin cfg0.N) (j : Fin 9) :
    iblk m c 15 t (ix2 0 j) = m ((c : Thread nD τ).loc main_arg14) (ix1 j) := by
  refine .trans ?_ (V_bout m c j); blk_ext [iblk, index_fixed t]

end Cert.KernelIdeal.Value
-- ==== Proof.Value.Kernel.lean ====
/- What the kernel's output array holds after the run: the layer's result. -/
module

public import proofs.«01_k».proof.Proof.Run.Launch
public import proofs.«01_k».proof.Proof.Value.Payload
public import proofs.«01_k».proof.Proof.Value.Blocks
public import proofs.«01_k».proof.Proof.Value.Held

@[expose] public section

set_option maxRecDepth 16384

namespace Cert.KernelIdeal.Value

open Idealize.ShloMosaic Idealize.ShloMosaic.TcCoe Cert.KernelIdeal Cert.KernelIdeal.Gen Cert.KernelIdeal.Run
open Cert.Spec (Args coe_sum coe_max)

variable (m : (ℓ : Loc nD τ sig) → Buf (Elt Ideal) ℓ) (c : Dev nD) (A : Args)

/-- The launch memory holds the arguments `A` on device `c`. -/
abbrev HeldAt : Prop :=
  Spec.Held A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

variable {m c A}

/-- The first scratch holds the attention's result for every tag. -/
theorem attn_apply (H : HeldAt m c A) (t : Fin 8) (h : Fin 1024) : attn m c (ix2 t h) = (Spec.attn A t h : EReal) := by
  unfold attn
  rw [pay1_apply]
  simp only [iblk0_apply, iblk1_apply, iblk2_apply, iblk3_apply, iblk4_apply, H.tag, H.ipw, H.ipb, H.wo, H.bo]
  simp only [← EReal.coe_mul, ← EReal.coe_add, ← coe_sum]
  rfl

/-- The second scratch holds every tag's part of the first product. -/
theorem gfull_apply (H : HeldAt m c A) (t : Fin 8) (j : Fin 1024) : gfull m c (ix2 t j) = (Spec.g A t j : EReal) := by
  have ea : ∀ h : Fin 1024, rowOf (attn m c) t.val (ix2 0 h) = (Spec.attn A t h : EReal) := fun h => by
    rw [← attn_apply H t h]
    unfold rowOf
    congr 1
    idx_ext
  have ew : ∀ (o : ℕ) (h : Fin 1024), 2048 * (t.val / 2) + o = 1024 * t.val → o < 1025 →
      colsOf (iblk m c 5 (tRow t)) o (ix2 j h) = (A.w1 j ⟨t.val * 1024 + h.val, by omega⟩ : EReal) := fun o h ho ho' => by
    have e : colsOf (iblk m c 5 (tRow t)) o (ix2 j h) = iblk m c 5 (tRow t) (ix2 j (Fin.ofNat 2048 (o + h.val))) := by
      unfold colsOf
      congr 1
    rw [e, iblk5_apply, H.w1]
    congr 2
    apply Fin.ext
    show min (t.val / 2) 3 * 2048 + (o + h.val) % 2048 = t.val * 1024 + h.val
    omega
  unfold gfull
  show (if t.val % 2 = 0 then k0_pay2 (rowOf (attn m c) t.val) (colsOf (iblk m c 5 (tRow t)) 0) (ValueIdx.ix2 0 j)
    else k0_pay3 (rowOf (attn m c) t.val) (colsOf (iblk m c 5 (tRow t)) 1024) (ValueIdx.ix2 0 j)) = _
  rw [← ix2_eq_valueIdx]
  split
  · rw [pay2_apply]
    simp only [ea, ew 0 _ (by omega) (by omega), ← EReal.coe_mul, ← coe_sum]
    rfl
  · rw [pay3_apply]
    simp only [ea, ew 1024 _ (by omega) (by omega), ← EReal.coe_mul, ← coe_sum]
    rfl

/-- The named constant is the reciprocal of the row's length. -/
theorem inv_d_eq : (Named.named κ "inv_d" 0x3A2AAAAB#32 : Ideal .f32) = ((1 / 1536 : ℝ) : EReal) :=
  IdealRules.named_const.ideal_named_scalar _ _ _ _ rfl

/-- The small number that the kernel adds to the variance. -/
theorem eps_eq : Ideal.ofBits .f32 0x2B8CBCCC#32 = (Spec.eps : EReal) := by
  unfold Spec.eps
  simp [Ideal.ofBits, Ideal.ieee, -EReal.coe_mul]; norm_num

/-- What a point leaves for batch `b`. -/
theorem outBlk_apply (H : HeldAt m c A) (t : Fin cfg0.N) (b : Fin 4) (hb : b.val = t.val - 4) (s : Fin 512) (n : Fin 9) :
    outBlk m c t (ix3 0 s n) = Spec.out A b s n := by
  have hx : ∀ (s : Fin 512) (j : Fin 1024), k0_pay5 (iblk m c 6 t) (ix2 s j) = (A.we b s j : EReal) := fun s j => by
    rw [pay5_apply, iblk6_apply m c t b hb, H.we]
  have hu : ∀ (s f : Fin 512), k0_pay6 (iblk m c 7 t) (iblk m c 8 t) (gfull m c) (iblk m c 9 t) (iblk m c 10 t) (iblk m c 11 t) (ix2 s f)
      = (Spec.emb A b s f : EReal) := fun s f => by
    rw [pay6_apply]
    simp only [iblk7_apply m c t b hb, iblk8_apply m c t b hb, iblk9_apply, iblk10_apply, iblk11_apply, gfull_apply H, H.span, H.b1, H.w2, H.b2]
    simp only [← EReal.coe_zero, ← EReal.coe_mul, ← EReal.coe_add, ← coe_sum, ← coe_max]
    rfl
  have hs : k0_pay7 (iblk m c 6 t) (iblk m c 7 t) (iblk m c 8 t) (gfull m c) (iblk m c 9 t) (iblk m c 10 t) (iblk m c 11 t) (ix2 s 0)
        * ((1 / 1536 : ℝ) : EReal)
      = (Spec.mean (Spec.join (A.we b s) (Spec.emb A b s)) : EReal) := by
    rw [pay7_apply, Spec.mean_join]
    simp only [hx, hu, ← EReal.coe_mul, ← EReal.coe_add, ← coe_sum]
  unfold outBlk outPay
  generalize k0_pay5 (iblk m c 6 t) = x at *
  generalize k0_pay6 (iblk m c 7 t) (iblk m c 8 t) (gfull m c) (iblk m c 9 t) (iblk m c 10 t) (iblk m c 11 t) = u at *
  generalize k0_pay7 (iblk m c 6 t) (iblk m c 7 t) (iblk m c 8 t) (gfull m c) (iblk m c 9 t) (iblk m c 10 t) (iblk m c 11 t) = z at *
  have hr : k0_pay9 x u z (Named.named κ "inv_d" 0x3A2AAAAB#32 : Ideal .f32) (ix2 s 0)
      = ((Real.sqrt (Spec.var (Spec.join (A.we b s) (Spec.emb A b s)) + Spec.eps))⁻¹ : ℝ) := by
    rw [pay9_apply, inv_d_eq, hs, eps_eq]
    simp only [hx, hu, ← EReal.coe_mul, ← EReal.coe_add, ← coe_sum, ← EReal.coe_sub]
    rw [Spec.var_join, Ideal.rsqrt_coe, if_neg (not_lt.mpr (Spec.var_eps_pos _).le), if_neg (Spec.var_eps_pos _).ne']
  rw [pay4_apply, pay12_apply, pay13_apply, pay14_apply, pay11_apply, hr, inv_d_eq, hs]
  simp only [hx, hu, iblk12_apply, iblk13_apply, iblk14_apply, iblk15_apply, H.lng, H.lnb, H.wout, H.bout]
  simp only [← EReal.coe_mul, ← EReal.coe_add, ← coe_sum, ← EReal.coe_sub]
  exact (Spec.label_eq _ _ _ _ _ _).symm

/-- The output array after the run. -/
theorem arr_out (H : HeldAt m c A) :
    (dats m 0 c).arrAt 16 cfg0.N = (fun i : S4x512x9.Idx => Spec.out A (i 0) (i 1) (i 2)) := by
  refine (dats m 0 c).arrAt_eq_of_covers 16 _ (by decide +kernel) fun t hf y => ?_
  have ht : 4 ≤ t.val := by
    by_contra h
    rw [out_flush t (by omega)] at hf
    exact absurd hf (by decide)
  have hb : t.val - 4 < 4 := by have : t.val < 8 := lt_of_lt_of_eq t.isLt N_0; omega
  have ey : y = (ix3 0 (y 1) (y 2) : S1x512x9.Idx) := by idx_ext
  blk_simp
  show outBlk m c t y = _
  rw [ey]
  refine (outBlk_apply H t ⟨t.val - 4, hb⟩ rfl (y 1) (y 2)).trans ?_
  have e : (win0_16.blk t).view.emb (ix3 0 (y 1) (y 2) : S1x512x9.Idx) = (ix3 ⟨t.val - 4, hb⟩ (y 1) (y 2) : S4x512x9.Idx) := by
    blk_ext [index_moving t]
  rw [e]
  rfl

end Cert.KernelIdeal.Value
-- ==== Proof.Value.Reference.lean ====
/- The reference's result at an index, over the extended reals. -/
module

public import proofs.«01_k».proof.Proof.Value.Scores
public import proofs.«01_k».proof.Proof.Value.Held
public import proofs.«01_k».proof.Proof.Value.Kernel
public import Idealize.ShloMosaic.Lib.Pointwise

@[expose] public section

set_option maxRecDepth 16384

namespace Cert.ReferenceIdeal.Value

open Cert.ReferenceIdeal Cert.ReferenceIdeal.Gen Cert.ReferenceIdeal.Read Cert.ReferenceIdeal.Scores Cert.Spec Idealize.ShloMosaic

/-! ### Each part from its operands -/

section
variable {x0 : FVec Ideal S4x512x1024 .f32} {x1 : IVec S4x8x2 32} {x2 : FVec Ideal S8x1024 .f32} {x3 : FVec Ideal S3072x1024 .f32}
  {x4 : FVec Ideal S3072 .f32} {x5 : FVec Ideal S1024x1024 .f32} {x6 : FVec Ideal S1024 .f32} {x7 : FVec Ideal S1024x8192 .f32}
  {x8 : FVec Ideal S1024 .f32} {x9 : FVec Ideal S512x1024 .f32} {x10 : FVec Ideal S512 .f32} {x11 x12 : FVec Ideal S1536 .f32}
  {x13 : FVec Ideal S9x1536 .f32} {x14 : FVec Ideal S9 .f32}

/-- The value rows of the tags. -/
theorem v61_apply (t : Fin 8) (h : Fin 1024) : val_main_v61 (F := Ideal) x2 x3 x4 (ix2 t h)
    = (∑ j : Fin 1024, x2 (ix2 t j) * x3 (ix2 ⟨2048 + h.val, by omega⟩ j)) + x4 (ix1 ⟨2048 + h.val, by omega⟩) := by
  pointwise [val_main_v61, val_main_v60, val_main_v59, val_main_v58, val_main_v57, val_main_v41, val_main_v44]

/-- The weighted value rows, heads side by side: where every weight is one, the value rows themselves. -/
theorem v85_apply (z : ∀ i, val_main_v79 (F := Ideal) x0 x2 x3 x4 i = 1) (b : Fin 4) (s : Fin 512) (t : Fin 8) (h : Fin 1024) :
    val_main_v85 (F := Ideal) x0 x2 x3 x4 (ix4 b s t h) = val_main_v61 (F := Ideal) x2 x3 x4 (ix2 t h) := by
  unfold val_main_v85 val_main_v84 val_main_v82 val_main_v80 val_main_v83 val_main_v81 val_main_v62
  generalize val_main_v61 (F := Ideal) x2 x3 x4 = u
  generalize val_main_v79 (F := Ideal) x0 x2 x3 x4 = v at z ⊢
  pointwise
  rw [z, one_mul]

/-- The attention's result. -/
theorem v90_apply (b : Fin 4) (s : Fin 512) (t : Fin 8) (h : Fin 1024) :
    val_main_v90 (F := Ideal) x0 x2 x3 x4 x5 x6 (ix4 b s t h)
      = (∑ k : Fin 1024, val_main_v85 (F := Ideal) x0 x2 x3 x4 (ix4 b s t k) * x5 (ix2 h k)) + x6 (ix1 h) := by
  rw [val_main_v90_apply, val_main_v87_apply, val_main_v89_apply, val_main_v88_apply]
  refine congrArg₂ (· + ·) (Finset.sum_congr rfl fun k _ => ?_) (congrArg x6 (by idx_ext))
  rw [val_main_v86_apply]
  exact congrArg₂ (· * ·) (congrArg _ (by idx_ext)) (congrArg x5 (by idx_ext))

/-- The mask as a number. -/
theorem v104_apply (b : Fin 4) (s : Fin 512) (t : Fin 8) :
    val_main_v104 (F := Ideal) x1 (ix3 b s t) = (inSpan s (x1 (ix3 b t 0)) (x1 (ix3 b t 1)) : EReal) := by
  pointwise [val_main_v104, val_main_v103, val_main_v102, val_main_v101, val_main_v100, val_main_v99, val_main_v98,
    val_main_v97, val_main_v96, val_main_v95, val_main_v94, val_main_v93, val_main_v92, val_main_v91]
  unfold inSpan IntOp.andi IntOp.cmpi
  cases (x1 (ix3 b t 0)).sle (BitVec.ofNat 32 s.val) <;> cases (BitVec.ofNat 32 s.val).slt (x1 (ix3 b t 1)) <;>
    simp [FloatOps.uitofp]

/-- The masked rows end to end, times the first weights. -/
theorem v110_apply (b : Fin 4) (s : Fin 512) (j : Fin 1024) :
    val_main_v110 (F := Ideal) x0 x1 x2 x3 x4 x5 x6 x7 (ix3 b s j)
      = ∑ k : Fin 8192, val_main_v90 (F := Ideal) x0 x2 x3 x4 x5 x6 (ix4 b s ⟨k.val / 1024, by omega⟩ ⟨k.val % 1024, by omega⟩)
          * val_main_v104 (F := Ideal) x1 (ix3 b s ⟨k.val / 1024, by omega⟩) * x7 (ix2 j k) := by
  rw [val_main_v110_apply]
  refine Finset.sum_congr rfl fun k _ => ?_
  have e : idx_main_v108 (lidx_main_v110 (ix3 b s j) k) = ix4 b s ⟨k.val / 1024, by omega⟩ ⟨k.val % 1024, by omega⟩ := by idx_ext
  rw [val_main_v108_apply, val_main_v107_apply, val_main_v109_apply, val_main_v106_apply, val_main_v105_apply, e]
  exact congrArg₂ (· * ·) (congrArg₂ (· * ·) rfl (congrArg _ (by idx_ext))) (congrArg x7 (by idx_ext))

/-- The hidden layer. -/
theorem v114_apply (b : Fin 4) (s : Fin 512) (j : Fin 1024) :
    val_main_v114 (F := Ideal) x0 x1 x2 x3 x4 x5 x6 x7 x8 (ix3 b s j)
      = max (val_main_v110 (F := Ideal) x0 x1 x2 x3 x4 x5 x6 x7 (ix3 b s j) + x8 (ix1 j)) 0 := by
  rw [val_main_v114_apply, val_main_v113_apply, val_main_v112_apply, val_main_v111_apply, val_main_call0_v0_apply,
    val_main_call0_cst_apply]
  exact congrArg₂ max (congrArg (_ + ·) (congrArg x8 (by idx_ext))) Ideal.ofBits_zero_f32

/-- The tag embedding. -/
theorem v119_apply (b : Fin 4) (s : Fin 512) (f : Fin 512) :
    val_main_v119 (F := Ideal) x0 x1 x2 x3 x4 x5 x6 x7 x8 x9 x10 (ix3 b s f)
      = (∑ j : Fin 1024, val_main_v114 (F := Ideal) x0 x1 x2 x3 x4 x5 x6 x7 x8 (ix3 b s j) * x9 (ix2 f j)) + x10 (ix1 f) := by
  rw [val_main_v119_apply, val_main_v116_apply, val_main_v118_apply, val_main_v117_apply]
  refine congrArg₂ (· + ·) (Finset.sum_congr rfl fun k _ => ?_) (congrArg x10 (by idx_ext))
  rw [val_main_v115_apply]
  exact congrArg₂ (· * ·) (congrArg _ (by idx_ext)) (congrArg x9 (by idx_ext))

/-- A word and its tag embedding end to end. -/
theorem v120_apply (b : Fin 4) (s : Fin 512) (d : Fin 1536) :
    val_main_v120 (F := Ideal) x0 x1 x2 x3 x4 x5 x6 x7 x8 x9 x10 (ix3 b s d)
      = if h : d.val < 1024 then x0 (ix3 b s ⟨d.val, h⟩)
        else val_main_v119 (F := Ideal) x0 x1 x2 x3 x4 x5 x6 x7 x8 x9 x10 (ix3 b s ⟨d.val - 1024, by omega⟩) := by
  unfold val_main_v120
  generalize val_main_v119 (F := Ideal) x0 x1 x2 x3 x4 x5 x6 x7 x8 x9 x10 = u
  pointwise

end

end Cert.ReferenceIdeal.Value
-- ==== Proof.Value.Layer.lean ====
/- The reference computes the layer. -/
module

public import proofs.«01_k».proof.Proof.Value.Reference

@[expose] public section

set_option maxRecDepth 16384

namespace Cert.Spec

/-- A sum over the tags' rows end to end is a sum over tags of sums over rows. -/
theorem sum_tags (F : Fin 8 → Fin 1024 → Fin 8192 → ℝ) :
    ∑ k : Fin 8192, F ⟨k.val / 1024, by omega⟩ ⟨k.val % 1024, by omega⟩ k
      = ∑ t : Fin 8, ∑ h : Fin 1024, F t h ⟨t.val * 1024 + h.val, by omega⟩ := by
  rw [← Fintype.sum_prod_type' (f := fun (t : Fin 8) (h : Fin 1024) => F t h ⟨t.val * 1024 + h.val, by omega⟩)]
  refine Fintype.sum_equiv ((finCongr (by norm_num : 8192 = 8 * 1024)).trans finProdFinEquiv.symm) _ _ fun k => ?_
  have e : (⟨k.val / 1024 * 1024 + k.val % 1024, by omega⟩ : Fin 8192) = k := Fin.ext (by simp only; omega)
  exact congrArg (F ⟨k.val / 1024, by omega⟩ ⟨k.val % 1024, by omega⟩) e.symm

end Cert.Spec

namespace Cert.ReferenceIdeal.Value

open Cert.ReferenceIdeal Cert.ReferenceIdeal.Gen Cert.ReferenceIdeal.Read Cert.ReferenceIdeal.Scores Cert.Spec Idealize.ShloMosaic

variable {x0 : FVec Ideal S4x512x1024 .f32} {x1 : IVec S4x8x2 32} {x2 : FVec Ideal S8x1024 .f32} {x3 : FVec Ideal S3072x1024 .f32}
  {x4 : FVec Ideal S3072 .f32} {x5 : FVec Ideal S1024x1024 .f32} {x6 : FVec Ideal S1024 .f32} {x7 : FVec Ideal S1024x8192 .f32}
  {x8 : FVec Ideal S1024 .f32} {x9 : FVec Ideal S512x1024 .f32} {x10 : FVec Ideal S512 .f32} {x11 x12 : FVec Ideal S1536 .f32}
  {x13 : FVec Ideal S9x1536 .f32} {x14 : FVec Ideal S9 .f32} {A : Args}

/-! ### The tag embedding -/

section
variable (H : Held A x0 x1 x2 x3 x4 x5 x6 x7 x8 x9 x10 x11 x12 x13 x14)
include H

theorem weight_one (i : S4x512x8x16.Idx) : val_main_v79 (F := Ideal) x0 x2 x3 x4 i = 1 :=
  v79_one (fun i => ⟨_, (congrArg x0 (by idx_ext)).trans (H.we (i 0) (i 1) (i 2))⟩)
    (fun i => ⟨_, (congrArg x2 (by idx_ext)).trans (H.tag (i 0) (i 1))⟩)
    (fun i => ⟨_, (congrArg x3 (by idx_ext)).trans (H.ipw (i 0) (i 1))⟩)
    (fun i => ⟨_, (congrArg x4 (by idx_ext)).trans (H.ipb (i 0))⟩) i

theorem attn_eq (b : Fin 4) (s : Fin 512) (t : Fin 8) (h : Fin 1024) :
    val_main_v90 (F := Ideal) x0 x2 x3 x4 x5 x6 (ix4 b s t h) = (attn A t h : EReal) := by
  rw [v90_apply, H.bo]
  simp only [v85_apply (weight_one H), v61_apply, H.tag, H.ipw, H.ipb, H.wo, ← EReal.coe_mul, ← coe_sum, ← EReal.coe_add]
  rfl

theorem hid_eq (b : Fin 4) (s : Fin 512) (j : Fin 1024) :
    val_main_v114 (F := Ideal) x0 x1 x2 x3 x4 x5 x6 x7 x8 (ix3 b s j) = (hid A b s j : EReal) := by
  rw [v114_apply, v110_apply, H.b1]
  simp only [attn_eq H, v104_apply, H.span, H.w1, ← EReal.coe_mul, ← coe_sum, ← EReal.coe_add, ← EReal.coe_zero, ← coe_max]
  rw [sum_tags fun t h k => attn A t h * inSpan s (A.span b t 0) (A.span b t 1) * A.w1 j k]
  have e (t : Fin 8) : ∑ h, attn A t h * inSpan s (A.span b t 0) (A.span b t 1) * A.w1 j ⟨t.val * 1024 + h.val, by omega⟩
      = inSpan s (A.span b t 0) (A.span b t 1) * g A t j := by
    unfold g
    rw [Finset.mul_sum]
    exact Finset.sum_congr rfl fun h _ => by ring
  simp only [e]
  exact coe_max _ _

theorem emb_eq (b : Fin 4) (s : Fin 512) (f : Fin 512) :
    val_main_v119 (F := Ideal) x0 x1 x2 x3 x4 x5 x6 x7 x8 x9 x10 (ix3 b s f) = (emb A b s f : EReal) := by
  rw [v119_apply, H.b2]
  simp only [hid_eq H, H.w2, ← EReal.coe_mul, ← coe_sum, ← EReal.coe_add]
  rfl

theorem join_eq (b : Fin 4) (s : Fin 512) (d : Fin 1536) :
    val_main_v120 (F := Ideal) x0 x1 x2 x3 x4 x5 x6 x7 x8 x9 x10 (ix3 b s d) = (join (A.we b s) (emb A b s) d : EReal) := by
  rw [v120_apply]
  unfold join
  split
  · exact H.we _ _ _
  · exact emb_eq H _ _ _

end

/-! ### The normalisation -/

theorem count_eq : Ideal.ofBits .f32 0x44C00000#32 = ((1536 : ℝ) : EReal) := by
  simp [Ideal.ofBits, Ideal.ieee, -EReal.coe_mul]; norm_num

section
variable {b : Fin 4} {s : Fin 512} {x : Fin 1536 → ℝ}
  (hx : ∀ d, val_main_v120 (F := Ideal) x0 x1 x2 x3 x4 x5 x6 x7 x8 x9 x10 (ix3 b s d) = (x d : EReal))
include hx

theorem mean_eq : val_main_v124 (F := Ideal) x0 x1 x2 x3 x4 x5 x6 x7 x8 x9 x10 (ix3 b s 0) = (mean x : EReal) := by
  rw [val_main_v124_apply, val_main_v122_apply, val_main_v121_apply, val_main_v123_apply, val_main_cst_9_apply, val_main_cst_8_apply]
  have e : ∀ k, idx_main_v121 (idx_main_v122 (ix3 b s 0)) k = ix3 b s k := fun k => by idx_ext
  simp only [e, hx, ← coe_sum]
  show Ideal.div (Ideal.ofBits .f32 0x00000000#32 + _) (Ideal.ofBits .f32 0x44C00000#32) = _
  rw [count_eq, Ideal.ofBits_zero_f32, zero_add, Ideal.div_coe (by norm_num), ← EReal.coe_mul]
  rfl

theorem centred_eq (d : Fin 1536) :
    val_main_v126 (F := Ideal) x0 x1 x2 x3 x4 x5 x6 x7 x8 x9 x10 (ix3 b s d) = ((x d - mean x : ℝ) : EReal) := by
  have e : idx_main_v125 (ix3 b s d) = ix3 b s 0 := by idx_ext
  rw [val_main_v126_apply, val_main_v125_apply, e, hx, mean_eq hx]
  exact (EReal.coe_sub _ _).symm

theorem centred_eq' (d : Fin 1536) :
    val_main_v133 (F := Ideal) x0 x1 x2 x3 x4 x5 x6 x7 x8 x9 x10 (ix3 b s d) = ((x d - mean x : ℝ) : EReal) := by
  have e : idx_main_v132 (ix3 b s d) = ix3 b s 0 := by idx_ext
  rw [val_main_v133_apply, val_main_v132_apply, e, hx, mean_eq hx]
  exact (EReal.coe_sub _ _).symm

theorem var_eq : val_main_v131 (F := Ideal) x0 x1 x2 x3 x4 x5 x6 x7 x8 x9 x10 (ix3 b s 0) = (var x : EReal) := by
  rw [val_main_v131_apply, val_main_v129_apply, val_main_v128_apply, val_main_v130_apply, val_main_cst_11_apply, val_main_cst_10_apply]
  have e : ∀ k, val_main_v127 (F := Ideal) x0 x1 x2 x3 x4 x5 x6 x7 x8 x9 x10 (idx_main_v128 (idx_main_v129 (ix3 b s 0)) k)
      = (((x k - mean x) * (x k - mean x) : ℝ) : EReal) := fun k => by
    have e : idx_main_v128 (idx_main_v129 (ix3 b s 0)) k = ix3 b s k := by idx_ext
    rw [e, val_main_v127_apply, centred_eq hx]
    exact (EReal.coe_mul _ _).symm
  simp only [e, ← coe_sum]
  show Ideal.div (Ideal.ofBits .f32 0x00000000#32 + _) (Ideal.ofBits .f32 0x44C00000#32) = _
  rw [count_eq, Ideal.ofBits_zero_f32, zero_add, Ideal.div_coe (by norm_num), ← EReal.coe_mul]
  rfl

theorem scaled_eq (d : Fin 1536) : val_main_v138 (F := Ideal) x0 x1 x2 x3 x4 x5 x6 x7 x8 x9 x10 (ix3 b s d)
    = (((x d - mean x) * (1 / Real.sqrt (var x + eps)) : ℝ) : EReal) := by
  have e : idx_main_v137 (ix3 b s d) = ix3 b s 0 := by idx_ext
  have hp := var_eps_pos x
  rw [val_main_v138_apply, val_main_v137_apply, centred_eq' hx, e, val_main_v136_apply, val_main_v135_apply, var_eq hx,
    val_main_v134_apply, val_main_cst_12_apply]
  show Ideal.div _ (Ideal.sqrt ((var x : EReal) + Ideal.ofBits .f32 0x2B8CBCCC#32)) = _
  rw [Cert.KernelIdeal.Value.eps_eq, ← EReal.coe_add, Ideal.sqrt_coe, if_neg (not_lt.2 hp.le), Ideal.div_coe (Real.sqrt_pos.2 hp).ne',
    ← EReal.coe_mul]

end

/-! ### The result -/

theorem result_eq (H : Held A x0 x1 x2 x3 x4 x5 x6 x7 x8 x9 x10 x11 x12 x13 x14) :
    val_main_v149 (F := Ideal) x0 x1 x2 x3 x4 x5 x6 x7 x8 x9 x10 x11 x12 x13 x14
      = fun i : S4x512x9.Idx => out A (i 0) (i 1) (i 2) := by
  funext i
  obtain ⟨b, s, n, rfl⟩ : ∃ (b : Fin 4) (s : Fin 512) (n : Fin 9), i = ix3 b s n := ⟨i 0, i 1, i 2, by idx_ext⟩
  show _ = out A b s n
  rw [val_main_v149_apply, val_main_v146_apply, val_main_v148_apply, val_main_v147_apply]
  unfold out label
  refine congrArg₂ (· + ·) (Finset.sum_congr rfl fun d _ => ?_) ((congrArg x14 (by idx_ext)).trans (H.bout n))
  have e : lidx_main_v146 (ix3 b s n) d = ix3 b s d := by idx_ext
  rw [e, val_main_v144_apply, val_main_v143_apply, val_main_v142_apply, val_main_v141_apply, val_main_v140_apply,
    val_main_v139_apply, scaled_eq (join_eq H b s), val_main_v145_apply]
  have e11 : x11 (idx_main_v139 (idx_main_v140 (ix3 b s d))) = (A.lng d : EReal) := (congrArg x11 (by idx_ext)).trans (H.lng d)
  have e12 : x12 (idx_main_v142 (idx_main_v143 (ix3 b s d))) = A.lnb d := (congrArg x12 (by idx_ext)).trans (H.lnb d)
  have e13 : x13 (idx_main_v145 (ridx_main_v146 (ix3 b s n) d)) = (A.wout n d : EReal) := (congrArg x13 (by idx_ext)).trans (H.wout n d)
  rw [e11, e12, e13]
  exact congrArg (· * _) (congrArg (· + _) (EReal.coe_mul _ _).symm)

end Cert.ReferenceIdeal.Value
-- ==== Proof.Value.Result.lean ====
/- What the two programs leave: the kernel's run and the reference's, each at the layer's values. -/
module

public import proofs.«01_k».proof.Proof.Value.Layer
public import proofs.«01_k».proof.Proof.Gen.ReferenceIdeal.Run

@[expose] public section

set_option maxRecDepth 16384

noncomputable section

/-! ### The kernel -/

namespace Cert.KernelIdeal.Value

open Cert.KernelIdeal Cert.KernelIdeal.Gen Cert.KernelIdeal.Run Idealize.ShloMosaic Idealize.SL.Sem

/-- What follows from the arrays at the end of the run, at any float values, holds with every counter at zero. -/
theorem quiet_of {F : FTy → Type} [FloatOps F] [Named F] (m : (ℓ : Loc nD τ sig) → Buf (Elt F) ℓ) (ρ : Dev nD → PrngReg)
    {Q : PUnit × MemSt nD τ sig (Elt F) → Prop}
    (h : θ_run defs (onTc (τ := τ) (main (F := F))) (s₀ m ρ) (Pipeline.FramePost cfgs (dats m) 0 (V m)) →
      θ_run defs (onTc (τ := τ) (main (F := F))) (s₀ m ρ) Q) :
    θ_run defs (onTc (τ := τ) (main (F := F))) (s₀ m ρ) fun r => Q r ∧ r.2.sem = fun _ => 0 :=
  θ_run_and (h ((θ_run defs _ _).mono (fun _ h => h.1) (run_main m ρ))) ((θ_run defs _ _).mono (fun _ h => h.2) (run_main m ρ))

variable {m : (ℓ : Loc nD τ sig) → Buf (Elt Ideal) ℓ} (ρ : Dev nD → PrngReg) {A : Dev nD → Spec.Args}

/-- Where the arguments are held, the kernel writes the layer's result. -/
theorem run_out (H : ∀ c, HeldAt m c (A c)) :
    θ_run defs (onTc (τ := τ) (main (F := Ideal))) ⟨m, fun _ => 0, ρ⟩ fun r => ∀ c : Dev nD,
      r.2.mem ((c.tc : Thread nD τ).loc main_v0) = (fun i : S4x512x9.Idx => (Spec.out (A c) (i 0) (i 1) (i 2) : EReal)) :=
  (θ_run defs _ _).mono (fun r h c => ((h.1 c).1 16).trans (arr_out (H c))) (run_main m ρ)

end Cert.KernelIdeal.Value

/-! ### The reference -/

namespace Cert.ReferenceIdeal.Value

open Cert.ReferenceIdeal Cert.ReferenceIdeal.Gen Idealize.ShloMosaic Idealize.ShloMosaic.StableHlo Idealize.SL.Sem

/-- The launch memory of the reference holds the arguments `A` on device `c`. -/
abbrev HeldAt (m : (ℓ : Loc nD τ sig) → Buf (Elt Ideal) ℓ) (c : Dev nD) (A : Spec.Args) : Prop :=
  Spec.Held A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))

end Cert.ReferenceIdeal.Value

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run.Printed
public import proofs.«01_k».proof.Proof.Value.Pre
public import proofs.«01_k».proof.Proof.Value.Result
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.Pre_finite.facts

/-- The ideal program ends with its arguments unchanged and every counter at zero. -/
theorem kernelIdeal_quiet : Cert.quiescent_KernelIdeal := fun m ρ _ =>
  Cert.KernelIdeal.Value.quiet_of m ρ (Cert.KernelIdeal.Gen.frame_of m ρ (Cert.KernelIdeal.Run.dats m) (Cert.KernelIdeal.Run.A_eq m))

attribute [local instance] Cert.Kernel.Printed.words in
/-- So does the printed kernel, which is the ideal program with the named constant read as its own word. -/
theorem kernel_quiet : Cert.quiescent_Kernel := fun m ρ _ =>
  Cert.Kernel.Printed.run_of m ρ _ (Cert.KernelIdeal.Value.quiet_of m ρ
    (Cert.KernelIdeal.Gen.frame_of m ρ (Cert.KernelIdeal.Run.dats m) (Cert.KernelIdeal.Run.A_eq m)))

/-- So does the reference. -/
theorem referenceIdeal_quiet : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named constant denotes 1/1536. -/
theorem named : Cert.preserves_Kernel_KernelIdeal :=
  IdealRules.named_const.statement Cert.KernelIdeal.κ "inv_d" .f32 0x3A2AAAAB#32 ((1 / 1536 : ℝ) : EReal) rfl

/-- The kernel and the reference leave the same result: each leaves the layer's. -/
theorem same : Cert.algebraic_KernelIdeal_ReferenceIdeal_pre_finite := fun m ρ m' ρ' hpre hargs => by
  have H c := Cert.Spec.Held.exists_of_pre _ _ _ _ _ _ _ _ _ _ _ _ _ _ _ (hpre c)
  choose A H using H
  refine ⟨fun c => fun i : Cert.KernelIdeal.S4x512x9.Idx => (Cert.Spec.out (A c) (i 0) (i 1) (i 2) : EReal), ?_, ?_⟩
  · exact (θ_run Cert.KernelIdeal.defs _ _).mono (fun r h c => ⟨h.1 c, h.2.1 c⟩)
      (θ_run_and (Cert.KernelIdeal.Value.run_out ρ H) (kernelIdeal_quiet m ρ trivial))
  · have H' : ∀ c, Cert.ReferenceIdeal.Value.HeldAt m' c (A c) := fun c => by
      obtain ⟨e0, e1, e2, e3, e4, e5, e6, e7, e8, e9, e10, e11, e12, e13, e14⟩ := hargs c
      unfold Cert.ReferenceIdeal.Value.HeldAt
      rw [e0, e1, e2, e3, e4, e5, e6, e7, e8, e9, e10, e11, e12, e13, e14]
      exact H c
    exact (θ_run Cert.ReferenceIdeal.defs _ _).mono
      (fun r h c => ⟨(h c).1.trans ((Cert.ReferenceIdeal.Read.val_main_v149_eq (F := Ideal) (StableHlo.launchContents m' c)).trans
        (Cert.ReferenceIdeal.Value.result_eq (H' c))), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite.facts,
    kernel_quiet, kernelIdeal_quiet, fun m ρ _ => kernelIdeal_quiet m ρ trivial, referenceIdeal_quiet,
    fun m ρ _ => referenceIdeal_quiet m ρ trivial, named, same⟩

end Cert.Proof

end
